-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S4x1024x32x128 : Shape := ⟨4, ![4, 1024, 32, 128]⟩
abbrev S960x1024 : Shape := ⟨2, ![960, 1024]⟩
abbrev S2x4x1024x128 : Shape := ⟨4, ![2, 4, 1024, 128]⟩
abbrev S8 : Shape := ⟨1, ![8]⟩
abbrev S4 : Shape := ⟨1, ![4]⟩
abbrev S1 : Shape := ⟨1, ![1]⟩
abbrev S_ : Shape := ⟨0, ![]⟩
abbrev S1x4x1024x128 : Shape := ⟨4, ![1, 4, 1024, 128]⟩
abbrev S4x1024x128 : Shape := ⟨3, ![4, 1024, 128]⟩
abbrev S4x1024x1x128 : Shape := ⟨4, ![4, 1024, 1, 128]⟩
abbrev S256x512 : Shape := ⟨2, ![256, 512]⟩
abbrev S1024x128 : Shape := ⟨2, ![1024, 128]⟩
abbrev S1x1x1024x128 : Shape := ⟨4, ![1, 1, 1024, 128]⟩
abbrev S1024 : Shape := ⟨1, ![1024]⟩
abbrev S1024x1 : Shape := ⟨2, ![1024, 1]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1024x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S960x1024, .bf16⟩
  | .local _ .vmem, ⟨8, _⟩ => ⟨S960x1024, .bf16⟩
  | .local _ .vmem, ⟨9, _⟩ => ⟨S960x1024, .bf16⟩
  | .local _ .vmem, ⟨10, _⟩ => ⟨S2x4x1024x128, .f32⟩
  | .local _ .vmem, ⟨11, _⟩ => ⟨S2x4x1024x128, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 4 → Nat :=
  let c0_i32_5 : BitVec 32 := 0#32
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v3 : BitVec 32 := Scalar.muli v2 c2_i32
  let v4 : BitVec 32 := Scalar.addi v3 c0_i32
  let c0_i32_7 : BitVec 32 := 0#32
  ![0, 0, v4.toNat, 0]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v32 : BitVec 32 := Scalar.xori v2 c1_i32_33
  let c1_i32_35 : BitVec 32 := 1#32
  let v33 : BitVec 32 := Scalar.muli v32 c1_i32_35
  let v34 : BitVec 32 := Scalar.addi c0_i32_36 v33
  v34.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_37 : BitVec 32 := 3#32
  let v35 : BitVec 32 := Scalar.xori v2 c3_i32_37
  let c1_i32_39 : BitVec 32 := 1#32
  let v36 : BitVec 32 := Scalar.muli v35 c1_i32_39
  let v37 : BitVec 32 := Scalar.addi c0_i32_40 v36
  v37.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v38 : BitVec 32 := Scalar.xori v2 c4_i32
  let c1_i32_42 : BitVec 32 := 1#32
  let v39 : BitVec 32 := Scalar.muli v38 c1_i32_42
  let v40 : BitVec 32 := Scalar.addi c0_i32_43 v39
  v40.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v41 : BitVec 32 := Scalar.xori v2 c8_i32
  let c1_i32_45 : BitVec 32 := 1#32
  let v42 : BitVec 32 := Scalar.muli v41 c1_i32_45
  let v43 : BitVec 32 := Scalar.addi c0_i32_46 v42
  v43.toNat
@[reducible] def k0_t1_loop : Scf.Loop 32 :=
  let c0_i32_105 : BitVec 32 := 0#32
  let c4_i32_106 : BitVec 32 := 4#32
  let v104 : BitVec 32 := Scalar.addi c0_i32_105 c4_i32_106
  let c1_i32_107 : BitVec 32 := 1#32
  ⟨c0_i32_105, v104, c1_i32_107⟩
def k0_off2 (d0 : Dev nD) (k0_t1 : Fin k0_t1_loop.trips) : Fin 2 → Nat :=
  let c1_i32_102 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let v101 : BitVec 32 := Scalar.subi c1_i32_102 v97
  let c2_i32_103 : BitVec 32 := 2#32
  let v102 : BitVec 32 := Scalar.muli v101 c2_i32_103
  let c0_i32_105 : BitVec 32 := 0#32
  let c1_i32_107 : BitVec 32 := 1#32
  let arg17 : BitVec 32 := Scf.iv c0_i32_105 c1_i32_107 k0_t1
  let c0_i32_399 : BitVec 32 := 0#32
  let v441 : BitVec 1 := Scalar.cmpi .sgt arg17 c0_i32_399
  let v442 : BitVec 32 := Scalar.extui v441
  let c0_i32_400 : BitVec 32 := 0#32
  let v443 : BitVec 1 := Scalar.cmpi .slt arg17 c0_i32_400
  let v444 : BitVec 32 := Scalar.extui v443
  let v445 : BitVec 32 := Scalar.subi v442 v444
  let c2_i32_398 : BitVec 32 := 2#32
  let c0_i32_401 : BitVec 32 := 0#32
  let v446 : BitVec 1 := Scalar.cmpi .sgt c2_i32_398 c0_i32_401
  let v447 : BitVec 32 := Scalar.extui v446
  let c0_i32_402 : BitVec 32 := 0#32
  let v448 : BitVec 1 := Scalar.cmpi .slt c2_i32_398 c0_i32_402
  let v449 : BitVec 32 := Scalar.extui v448
  let v450 : BitVec 32 := Scalar.subi v447 v449
  let v451 : BitVec 1 := Scalar.cmpi .ne v445 v450
  let v452 : BitVec 32 := Scalar.remsi arg17 c2_i32_398
  let c0_i32_403 : BitVec 32 := 0#32
  let v453 : BitVec 1 := Scalar.cmpi .ne v452 c0_i32_403
  let v454 : BitVec 1 := Scalar.andi v451 v453
  let v440 : BitVec 32 := Scalar.divsi arg17 c2_i32_398
  let c1_i32_404 : BitVec 32 := 1#32
  let v455 : BitVec 32 := Scalar.subi v440 c1_i32_404
  let v456 : BitVec 32 := Scalar.select v454 v455 v440
  let v457 : BitVec 32 := Scalar.addi v102 v456
  let c256_i32_411 : BitVec 32 := 256#32
  let v468 : BitVec 32 := Scalar.muli v457 c256_i32_411
  let v470 : Index := Scalar.indexCast v468
  let c2_i32_405 : BitVec 32 := 2#32
  let c0_i32_406 : BitVec 32 := 0#32
  let v458 : BitVec 1 := Scalar.cmpi .eq c2_i32_405 c0_i32_406
  let c1_i32_407 : BitVec 32 := 1#32
  let v459 : BitVec 32 := Scalar.select v458 c1_i32_407 c2_i32_405
  let v460 : BitVec 32 := Scalar.remsi arg17 v459
  let c0_i32_409 : BitVec 32 := 0#32
  let v462 : BitVec 1 := Scalar.cmpi .slt v460 c0_i32_409
  let c0_i32_410 : BitVec 32 := 0#32
  let v463 : BitVec 1 := Scalar.cmpi .slt v459 c0_i32_410
  let v464 : BitVec 1 := Scalar.xori v462 v463
  let c0_i32_408 : BitVec 32 := 0#32
  let v461 : BitVec 1 := Scalar.cmpi .ne v460 c0_i32_408
  let v465 : BitVec 1 := Scalar.andi v464 v461
  let v466 : BitVec 32 := Scalar.addi v460 v459
  let v467 : BitVec 32 := Scalar.select v465 v466 v460
  let c512_i32_412 : BitVec 32 := 512#32
  let v469 : BitVec 32 := Scalar.muli v467 c512_i32_412
  let v471 : Index := Scalar.indexCast v469
  ![v470.toNat, v471.toNat]
def k0_off3 (d0 : Dev nD) (k0_t1 : Fin k0_t1_loop.trips) : Fin 4 → Nat :=
  let c0_i32_105 : BitVec 32 := 0#32
  let c1_i32_107 : BitVec 32 := 1#32
  let arg17 : BitVec 32 := Scf.iv c0_i32_105 c1_i32_107 k0_t1
  let c2_i32_405 : BitVec 32 := 2#32
  let c0_i32_406 : BitVec 32 := 0#32
  let v458 : BitVec 1 := Scalar.cmpi .eq c2_i32_405 c0_i32_406
  let c1_i32_407 : BitVec 32 := 1#32
  let v459 : BitVec 32 := Scalar.select v458 c1_i32_407 c2_i32_405
  let v460 : BitVec 32 := Scalar.remsi arg17 v459
  let c0_i32_409 : BitVec 32 := 0#32
  let v462 : BitVec 1 := Scalar.cmpi .slt v460 c0_i32_409
  let c0_i32_410 : BitVec 32 := 0#32
  let v463 : BitVec 1 := Scalar.cmpi .slt v459 c0_i32_410
  let v464 : BitVec 1 := Scalar.xori v462 v463
  let c0_i32_408 : BitVec 32 := 0#32
  let v461 : BitVec 1 := Scalar.cmpi .ne v460 c0_i32_408
  let v465 : BitVec 1 := Scalar.andi v464 v461
  let v466 : BitVec 32 := Scalar.addi v460 v459
  let v467 : BitVec 32 := Scalar.select v465 v466 v460
  let v474 : Index := Scalar.indexCast v467
  let c1_i32_102 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let v101 : BitVec 32 := Scalar.subi c1_i32_102 v97
  let c2_i32_103 : BitVec 32 := 2#32
  let v102 : BitVec 32 := Scalar.muli v101 c2_i32_103
  let c0_i32_399 : BitVec 32 := 0#32
  let v441 : BitVec 1 := Scalar.cmpi .sgt arg17 c0_i32_399
  let v442 : BitVec 32 := Scalar.extui v441
  let c0_i32_400 : BitVec 32 := 0#32
  let v443 : BitVec 1 := Scalar.cmpi .slt arg17 c0_i32_400
  let v444 : BitVec 32 := Scalar.extui v443
  let v445 : BitVec 32 := Scalar.subi v442 v444
  let c2_i32_398 : BitVec 32 := 2#32
  let c0_i32_401 : BitVec 32 := 0#32
  let v446 : BitVec 1 := Scalar.cmpi .sgt c2_i32_398 c0_i32_401
  let v447 : BitVec 32 := Scalar.extui v446
  let c0_i32_402 : BitVec 32 := 0#32
  let v448 : BitVec 1 := Scalar.cmpi .slt c2_i32_398 c0_i32_402
  let v449 : BitVec 32 := Scalar.extui v448
  let v450 : BitVec 32 := Scalar.subi v447 v449
  let v451 : BitVec 1 := Scalar.cmpi .ne v445 v450
  let v452 : BitVec 32 := Scalar.remsi arg17 c2_i32_398
  let c0_i32_403 : BitVec 32 := 0#32
  let v453 : BitVec 1 := Scalar.cmpi .ne v452 c0_i32_403
  let v454 : BitVec 1 := Scalar.andi v451 v453
  let v440 : BitVec 32 := Scalar.divsi arg17 c2_i32_398
  let c1_i32_404 : BitVec 32 := 1#32
  let v455 : BitVec 32 := Scalar.subi v440 c1_i32_404
  let v456 : BitVec 32 := Scalar.select v454 v455 v440
  let v457 : BitVec 32 := Scalar.addi v102 v456
  let v475 : Index := Scalar.indexCast v457
  let c0_413 : Index := 0#32
  let c0_414 : Index := 0#32
  ![v474.toNat, v475.toNat, 0, 0]
def k0_off4 (d0 : Dev nD) (c2_i32_103 : BitVec 32) (c256_i32 : BitVec 32) : Fin 2 → Nat :=
  let c1_i32_102 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let v101 : BitVec 32 := Scalar.subi c1_i32_102 v97
  let v102 : BitVec 32 := Scalar.muli v101 c2_i32_103
  let v105 : BitVec 32 := Scalar.muli v102 c256_i32
  let v106 : Index := Scalar.indexCast v105
  let c0_109 : Index := 0#32
  ![v106.toNat, 0]
def k0_off4_at (r : Fin 2) : BitVec 32 × BitVec 32 :=
  if r.val < 1 then
    (2#32, 256#32)
  else
    (8#32, 64#32)
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_118 : BitVec 32 := 1#32
  let v124 : BitVec 32 := Scalar.xori v2 c1_i32_118
  let c1_i32_121 : BitVec 32 := 1#32
  let v125 : BitVec 32 := Scalar.muli v124 c1_i32_121
  let v126 : BitVec 32 := Scalar.addi c0_i32_122 v125
  v126.toNat
@[reducible] def k0_t2_loop : Scf.Loop 32 :=
  let c0_i32_127 : BitVec 32 := 0#32
  let c4_i32_128 : BitVec 32 := 4#32
  let v133 : BitVec 32 := Scalar.addi c0_i32_127 c4_i32_128
  let c1_i32_129 : BitVec 32 := 1#32
  ⟨c0_i32_127, v133, c1_i32_129⟩
def k0_off5 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c2_i32_104 : BitVec 32 := 2#32
  let v103 : BitVec 32 := Scalar.muli v97 c2_i32_104
  let c0_i32_127 : BitVec 32 := 0#32
  let c1_i32_129 : BitVec 32 := 1#32
  let arg17 : BitVec 32 := Scf.iv c0_i32_127 c1_i32_129 k0_t2
  let c0_i32_399 : BitVec 32 := 0#32
  let v441 : BitVec 1 := Scalar.cmpi .sgt arg17 c0_i32_399
  let v442 : BitVec 32 := Scalar.extui v441
  let c0_i32_400 : BitVec 32 := 0#32
  let v443 : BitVec 1 := Scalar.cmpi .slt arg17 c0_i32_400
  let v444 : BitVec 32 := Scalar.extui v443
  let v445 : BitVec 32 := Scalar.subi v442 v444
  let c2_i32_398 : BitVec 32 := 2#32
  let c0_i32_401 : BitVec 32 := 0#32
  let v446 : BitVec 1 := Scalar.cmpi .sgt c2_i32_398 c0_i32_401
  let v447 : BitVec 32 := Scalar.extui v446
  let c0_i32_402 : BitVec 32 := 0#32
  let v448 : BitVec 1 := Scalar.cmpi .slt c2_i32_398 c0_i32_402
  let v449 : BitVec 32 := Scalar.extui v448
  let v450 : BitVec 32 := Scalar.subi v447 v449
  let v451 : BitVec 1 := Scalar.cmpi .ne v445 v450
  let v452 : BitVec 32 := Scalar.remsi arg17 c2_i32_398
  let c0_i32_403 : BitVec 32 := 0#32
  let v453 : BitVec 1 := Scalar.cmpi .ne v452 c0_i32_403
  let v454 : BitVec 1 := Scalar.andi v451 v453
  let v440 : BitVec 32 := Scalar.divsi arg17 c2_i32_398
  let c1_i32_404 : BitVec 32 := 1#32
  let v455 : BitVec 32 := Scalar.subi v440 c1_i32_404
  let v456 : BitVec 32 := Scalar.select v454 v455 v440
  let v457 : BitVec 32 := Scalar.addi v103 v456
  let c256_i32_411 : BitVec 32 := 256#32
  let v468 : BitVec 32 := Scalar.muli v457 c256_i32_411
  let v470 : Index := Scalar.indexCast v468
  let c2_i32_405 : BitVec 32 := 2#32
  let c0_i32_406 : BitVec 32 := 0#32
  let v458 : BitVec 1 := Scalar.cmpi .eq c2_i32_405 c0_i32_406
  let c1_i32_407 : BitVec 32 := 1#32
  let v459 : BitVec 32 := Scalar.select v458 c1_i32_407 c2_i32_405
  let v460 : BitVec 32 := Scalar.remsi arg17 v459
  let c0_i32_409 : BitVec 32 := 0#32
  let v462 : BitVec 1 := Scalar.cmpi .slt v460 c0_i32_409
  let c0_i32_410 : BitVec 32 := 0#32
  let v463 : BitVec 1 := Scalar.cmpi .slt v459 c0_i32_410
  let v464 : BitVec 1 := Scalar.xori v462 v463
  let c0_i32_408 : BitVec 32 := 0#32
  let v461 : BitVec 1 := Scalar.cmpi .ne v460 c0_i32_408
  let v465 : BitVec 1 := Scalar.andi v464 v461
  let v466 : BitVec 32 := Scalar.addi v460 v459
  let v467 : BitVec 32 := Scalar.select v465 v466 v460
  let c512_i32_412 : BitVec 32 := 512#32
  let v469 : BitVec 32 := Scalar.muli v467 c512_i32_412
  let v471 : Index := Scalar.indexCast v469
  ![v470.toNat, v471.toNat]
def k0_off6 (d0 : Dev nD) (k0_t2 : Fin k0_t2_loop.trips) : Fin 4 → Nat :=
  let c0_i32_127 : BitVec 32 := 0#32
  let c1_i32_129 : BitVec 32 := 1#32
  let arg17 : BitVec 32 := Scf.iv c0_i32_127 c1_i32_129 k0_t2
  let c2_i32_405 : BitVec 32 := 2#32
  let c0_i32_406 : BitVec 32 := 0#32
  let v458 : BitVec 1 := Scalar.cmpi .eq c2_i32_405 c0_i32_406
  let c1_i32_407 : BitVec 32 := 1#32
  let v459 : BitVec 32 := Scalar.select v458 c1_i32_407 c2_i32_405
  let v460 : BitVec 32 := Scalar.remsi arg17 v459
  let c0_i32_409 : BitVec 32 := 0#32
  let v462 : BitVec 1 := Scalar.cmpi .slt v460 c0_i32_409
  let c0_i32_410 : BitVec 32 := 0#32
  let v463 : BitVec 1 := Scalar.cmpi .slt v459 c0_i32_410
  let v464 : BitVec 1 := Scalar.xori v462 v463
  let c0_i32_408 : BitVec 32 := 0#32
  let v461 : BitVec 1 := Scalar.cmpi .ne v460 c0_i32_408
  let v465 : BitVec 1 := Scalar.andi v464 v461
  let v466 : BitVec 32 := Scalar.addi v460 v459
  let v467 : BitVec 32 := Scalar.select v465 v466 v460
  let v474 : Index := Scalar.indexCast v467
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c2_i32_104 : BitVec 32 := 2#32
  let v103 : BitVec 32 := Scalar.muli v97 c2_i32_104
  let c0_i32_399 : BitVec 32 := 0#32
  let v441 : BitVec 1 := Scalar.cmpi .sgt arg17 c0_i32_399
  let v442 : BitVec 32 := Scalar.extui v441
  let c0_i32_400 : BitVec 32 := 0#32
  let v443 : BitVec 1 := Scalar.cmpi .slt arg17 c0_i32_400
  let v444 : BitVec 32 := Scalar.extui v443
  let v445 : BitVec 32 := Scalar.subi v442 v444
  let c2_i32_398 : BitVec 32 := 2#32
  let c0_i32_401 : BitVec 32 := 0#32
  let v446 : BitVec 1 := Scalar.cmpi .sgt c2_i32_398 c0_i32_401
  let v447 : BitVec 32 := Scalar.extui v446
  let c0_i32_402 : BitVec 32 := 0#32
  let v448 : BitVec 1 := Scalar.cmpi .slt c2_i32_398 c0_i32_402
  let v449 : BitVec 32 := Scalar.extui v448
  let v450 : BitVec 32 := Scalar.subi v447 v449
  let v451 : BitVec 1 := Scalar.cmpi .ne v445 v450
  let v452 : BitVec 32 := Scalar.remsi arg17 c2_i32_398
  let c0_i32_403 : BitVec 32 := 0#32
  let v453 : BitVec 1 := Scalar.cmpi .ne v452 c0_i32_403
  let v454 : BitVec 1 := Scalar.andi v451 v453
  let v440 : BitVec 32 := Scalar.divsi arg17 c2_i32_398
  let c1_i32_404 : BitVec 32 := 1#32
  let v455 : BitVec 32 := Scalar.subi v440 c1_i32_404
  let v456 : BitVec 32 := Scalar.select v454 v455 v440
  let v457 : BitVec 32 := Scalar.addi v103 v456
  let v475 : Index := Scalar.indexCast v457
  let c0_413 : Index := 0#32
  let c0_414 : Index := 0#32
  ![v474.toNat, v475.toNat, 0, 0]
def k0_off7 (d0 : Dev nD) (c2_i32_104 : BitVec 32) (c256_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let v103 : BitVec 32 := Scalar.muli v97 c2_i32_104
  let v134 : BitVec 32 := Scalar.muli v103 c256_i32_131
  let v135 : Index := Scalar.indexCast v134
  let c0_132 : Index := 0#32
  ![v135.toNat, 0]
def k0_off7_at (r : Fin 2) : BitVec 32 × BitVec 32 :=
  if r.val < 1 then
    (2#32, 256#32)
  else
    (8#32, 64#32)
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c1_i32_155 : BitVec 32 := 1#32
  let c2_i32_152 : BitVec 32 := 2#32
  let v163 : BitVec 32 := Scalar.shrsi v95 c2_i32_152
  let c1_i32_153 : BitVec 32 := 1#32
  let v164 : BitVec 32 := Scalar.andi v163 c1_i32_153
  let v167 : BitVec 32 := Scalar.subi c1_i32_155 v164
  let c4_i32_156 : BitVec 32 := 4#32
  let v168 : BitVec 32 := Scalar.muli v167 c4_i32_156
  let v169 : BitVec 32 := Scalar.addi v98 v168
  let c64_i32_158 : BitVec 32 := 64#32
  let v171 : BitVec 32 := Scalar.muli v169 c64_i32_158
  let v172 : Index := Scalar.indexCast v171
  let c0_159 : Index := 0#32
  ![v172.toNat, 0]
def k0_dev6 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_157 : BitVec 32 := 3#32
  let v170 : BitVec 32 := Scalar.xori v2 c3_i32_157
  let c1_i32_163 : BitVec 32 := 1#32
  let v178 : BitVec 32 := Scalar.muli v170 c1_i32_163
  let v179 : BitVec 32 := Scalar.addi c0_i32_164 v178
  v179.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c2_i32_152 : BitVec 32 := 2#32
  let v163 : BitVec 32 := Scalar.shrsi v95 c2_i32_152
  let c1_i32_153 : BitVec 32 := 1#32
  let v164 : BitVec 32 := Scalar.andi v163 c1_i32_153
  let c4_i32_154 : BitVec 32 := 4#32
  let v165 : BitVec 32 := Scalar.muli v164 c4_i32_154
  let v166 : BitVec 32 := Scalar.addi v98 v165
  let c64_i32_176 : BitVec 32 := 64#32
  let v192 : BitVec 32 := Scalar.muli v166 c64_i32_176
  let v193 : Index := Scalar.indexCast v192
  let c0_177 : Index := 0#32
  ![v193.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c2_i32_152 : BitVec 32 := 2#32
  let v163 : BitVec 32 := Scalar.shrsi v95 c2_i32_152
  let c1_i32_153 : BitVec 32 := 1#32
  let v164 : BitVec 32 := Scalar.andi v163 c1_i32_153
  let c4_i32_154 : BitVec 32 := 4#32
  let v165 : BitVec 32 := Scalar.muli v164 c4_i32_154
  let v166 : BitVec 32 := Scalar.addi v98 v165
  let c1_i32_185 : BitVec 32 := 1#32
  let c1_i32_182 : BitVec 32 := 1#32
  let v203 : BitVec 32 := Scalar.shrsi v95 c1_i32_182
  let c1_i32_183 : BitVec 32 := 1#32
  let v204 : BitVec 32 := Scalar.andi v203 c1_i32_183
  let v207 : BitVec 32 := Scalar.subi c1_i32_185 v204
  let c2_i32_186 : BitVec 32 := 2#32
  let v208 : BitVec 32 := Scalar.muli v207 c2_i32_186
  let v209 : BitVec 32 := Scalar.addi v166 v208
  let c64_i32_188 : BitVec 32 := 64#32
  let v211 : BitVec 32 := Scalar.muli v209 c64_i32_188
  let v212 : Index := Scalar.indexCast v211
  let c0_189 : Index := 0#32
  ![v212.toNat, 0]
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_187 : BitVec 32 := 4#32
  let v210 : BitVec 32 := Scalar.xori v2 c4_i32_187
  let c1_i32_193 : BitVec 32 := 1#32
  let v218 : BitVec 32 := Scalar.muli v210 c1_i32_193
  let v219 : BitVec 32 := Scalar.addi c0_i32_194 v218
  v219.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c2_i32_152 : BitVec 32 := 2#32
  let v163 : BitVec 32 := Scalar.shrsi v95 c2_i32_152
  let c1_i32_153 : BitVec 32 := 1#32
  let v164 : BitVec 32 := Scalar.andi v163 c1_i32_153
  let c4_i32_154 : BitVec 32 := 4#32
  let v165 : BitVec 32 := Scalar.muli v164 c4_i32_154
  let v166 : BitVec 32 := Scalar.addi v98 v165
  let c1_i32_182 : BitVec 32 := 1#32
  let v203 : BitVec 32 := Scalar.shrsi v95 c1_i32_182
  let c1_i32_183 : BitVec 32 := 1#32
  let v204 : BitVec 32 := Scalar.andi v203 c1_i32_183
  let c2_i32_184 : BitVec 32 := 2#32
  let v205 : BitVec 32 := Scalar.muli v204 c2_i32_184
  let v206 : BitVec 32 := Scalar.addi v166 v205
  let c64_i32_206 : BitVec 32 := 64#32
  let v232 : BitVec 32 := Scalar.muli v206 c64_i32_206
  let v233 : Index := Scalar.indexCast v232
  let c0_207 : Index := 0#32
  ![v233.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c2_i32_152 : BitVec 32 := 2#32
  let v163 : BitVec 32 := Scalar.shrsi v95 c2_i32_152
  let c1_i32_153 : BitVec 32 := 1#32
  let v164 : BitVec 32 := Scalar.andi v163 c1_i32_153
  let c4_i32_154 : BitVec 32 := 4#32
  let v165 : BitVec 32 := Scalar.muli v164 c4_i32_154
  let v166 : BitVec 32 := Scalar.addi v98 v165
  let c1_i32_182 : BitVec 32 := 1#32
  let v203 : BitVec 32 := Scalar.shrsi v95 c1_i32_182
  let c1_i32_183 : BitVec 32 := 1#32
  let v204 : BitVec 32 := Scalar.andi v203 c1_i32_183
  let c2_i32_184 : BitVec 32 := 2#32
  let v205 : BitVec 32 := Scalar.muli v204 c2_i32_184
  let v206 : BitVec 32 := Scalar.addi v166 v205
  let c1_i32_215 : BitVec 32 := 1#32
  let c0_i32_212 : BitVec 32 := 0#32
  let v243 : BitVec 32 := Scalar.shrsi v95 c0_i32_212
  let c1_i32_213 : BitVec 32 := 1#32
  let v244 : BitVec 32 := Scalar.andi v243 c1_i32_213
  let v247 : BitVec 32 := Scalar.subi c1_i32_215 v244
  let c1_i32_216 : BitVec 32 := 1#32
  let v248 : BitVec 32 := Scalar.muli v247 c1_i32_216
  let v249 : BitVec 32 := Scalar.addi v206 v248
  let c64_i32_218 : BitVec 32 := 64#32
  let v251 : BitVec 32 := Scalar.muli v249 c64_i32_218
  let v252 : Index := Scalar.indexCast v251
  let c0_219 : Index := 0#32
  ![v252.toNat, 0]
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_217 : BitVec 32 := 8#32
  let v250 : BitVec 32 := Scalar.xori v2 c8_i32_217
  let c1_i32_223 : BitVec 32 := 1#32
  let v258 : BitVec 32 := Scalar.muli v250 c1_i32_223
  let v259 : BitVec 32 := Scalar.addi c0_i32_224 v258
  v259.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c3_i32_97 : BitVec 32 := 3#32
  let v96 : BitVec 32 := Scalar.shrsi v95 c3_i32_97
  let c1_i32_98 : BitVec 32 := 1#32
  let v97 : BitVec 32 := Scalar.andi v96 c1_i32_98
  let c8_i32_99 : BitVec 32 := 8#32
  let v98 : BitVec 32 := Scalar.muli v97 c8_i32_99
  let c2_i32_152 : BitVec 32 := 2#32
  let v163 : BitVec 32 := Scalar.shrsi v95 c2_i32_152
  let c1_i32_153 : BitVec 32 := 1#32
  let v164 : BitVec 32 := Scalar.andi v163 c1_i32_153
  let c4_i32_154 : BitVec 32 := 4#32
  let v165 : BitVec 32 := Scalar.muli v164 c4_i32_154
  let v166 : BitVec 32 := Scalar.addi v98 v165
  let c1_i32_182 : BitVec 32 := 1#32
  let v203 : BitVec 32 := Scalar.shrsi v95 c1_i32_182
  let c1_i32_183 : BitVec 32 := 1#32
  let v204 : BitVec 32 := Scalar.andi v203 c1_i32_183
  let c2_i32_184 : BitVec 32 := 2#32
  let v205 : BitVec 32 := Scalar.muli v204 c2_i32_184
  let v206 : BitVec 32 := Scalar.addi v166 v205
  let c0_i32_212 : BitVec 32 := 0#32
  let v243 : BitVec 32 := Scalar.shrsi v95 c0_i32_212
  let c1_i32_213 : BitVec 32 := 1#32
  let v244 : BitVec 32 := Scalar.andi v243 c1_i32_213
  let c1_i32_214 : BitVec 32 := 1#32
  let v245 : BitVec 32 := Scalar.muli v244 c1_i32_214
  let v246 : BitVec 32 := Scalar.addi v206 v245
  let c64_i32_236 : BitVec 32 := 64#32
  let v272 : BitVec 32 := Scalar.muli v246 c64_i32_236
  let v273 : Index := Scalar.indexCast v272
  let c0_237 : Index := 0#32
  ![v273.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c64_i32_244 : BitVec 32 := 64#32
  let v286 : BitVec 32 := Scalar.muli v95 c64_i32_244
  let v287 : Index := Scalar.indexCast v286
  let c0_245 : Index := 0#32
  ![v287.toNat, 0]
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v305 : BitVec 32 := Scalar.xori v2 c8_i32_274
  let c1_i32_281 : BitVec 32 := 1#32
  let v314 : BitVec 32 := Scalar.muli v305 c1_i32_281
  let v315 : BitVec 32 := Scalar.addi c0_i32_282 v314
  v315.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let c64_i32_298 : BitVec 32 := 64#32
  let v331 : BitVec 32 := Scalar.muli v328 c64_i32_298
  let v332 : Index := Scalar.indexCast v331
  let c0_299 : Index := 0#32
  ![v332.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c64_i32_301 : BitVec 32 := 64#32
  let v336 : BitVec 32 := Scalar.muli v334 c64_i32_301
  let v337 : Index := Scalar.indexCast v336
  let c0_302 : Index := 0#32
  ![v337.toNat, 0]
def k0_dev10 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_300 : BitVec 32 := 4#32
  let v335 : BitVec 32 := Scalar.xori v2 c4_i32_300
  let c1_i32_305 : BitVec 32 := 1#32
  let v344 : BitVec 32 := Scalar.muli v335 c1_i32_305
  let v345 : BitVec 32 := Scalar.addi c0_i32_306 v344
  v345.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c2_i32_319 : BitVec 32 := 2#32
  let v358 : BitVec 32 := Scalar.xori v334 c2_i32_319
  let c64_i32_322 : BitVec 32 := 64#32
  let v361 : BitVec 32 := Scalar.muli v358 c64_i32_322
  let v362 : Index := Scalar.indexCast v361
  let c0_323 : Index := 0#32
  ![v362.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c2_i32_319 : BitVec 32 := 2#32
  let v358 : BitVec 32 := Scalar.xori v334 c2_i32_319
  let v364 : BitVec 32 := Scalar.minsi v334 v358
  let c64_i32_325 : BitVec 32 := 64#32
  let v366 : BitVec 32 := Scalar.muli v364 c64_i32_325
  let v367 : Index := Scalar.indexCast v366
  let c0_326 : Index := 0#32
  ![v367.toNat, 0]
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_324 : BitVec 32 := 3#32
  let v365 : BitVec 32 := Scalar.xori v2 c3_i32_324
  let c1_i32_329 : BitVec 32 := 1#32
  let v374 : BitVec 32 := Scalar.muli v365 c1_i32_329
  let v375 : BitVec 32 := Scalar.addi c0_i32_330 v374
  v375.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c2_i32_319 : BitVec 32 := 2#32
  let v358 : BitVec 32 := Scalar.xori v334 c2_i32_319
  let v364 : BitVec 32 := Scalar.minsi v334 v358
  let c4_i32_342 : BitVec 32 := 4#32
  let v388 : BitVec 32 := Scalar.xori v364 c4_i32_342
  let c64_i32_345 : BitVec 32 := 64#32
  let v391 : BitVec 32 := Scalar.muli v388 c64_i32_345
  let v392 : Index := Scalar.indexCast v391
  let c0_346 : Index := 0#32
  ![v392.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c2_i32_319 : BitVec 32 := 2#32
  let v358 : BitVec 32 := Scalar.xori v334 c2_i32_319
  let v364 : BitVec 32 := Scalar.minsi v334 v358
  let c4_i32_342 : BitVec 32 := 4#32
  let v388 : BitVec 32 := Scalar.xori v364 c4_i32_342
  let v394 : BitVec 32 := Scalar.minsi v364 v388
  let c64_i32_348 : BitVec 32 := 64#32
  let v396 : BitVec 32 := Scalar.muli v394 c64_i32_348
  let v397 : Index := Scalar.indexCast v396
  let c0_349 : Index := 0#32
  ![v397.toNat, 0]
def k0_dev12 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_347 : BitVec 32 := 1#32
  let v395 : BitVec 32 := Scalar.xori v2 c1_i32_347
  let c1_i32_352 : BitVec 32 := 1#32
  let v404 : BitVec 32 := Scalar.muli v395 c1_i32_352
  let v405 : BitVec 32 := Scalar.addi c0_i32_353 v404
  v405.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v82 : BitVec 32 := Scalar.andi v2 c1_i32_87
  let c1_i32_88 : BitVec 32 := 1#32
  let v83 : BitVec 32 := Scalar.shrsi v2 c1_i32_88
  let c1_i32_89 : BitVec 32 := 1#32
  let v84 : BitVec 32 := Scalar.andi v83 c1_i32_89
  let v89 : BitVec 32 := Scalar.xori v82 v84
  let c8_i32_94 : BitVec 32 := 8#32
  let v90 : BitVec 32 := Scalar.muli v89 c8_i32_94
  let c4_i32_95 : BitVec 32 := 4#32
  let v91 : BitVec 32 := Scalar.muli v84 c4_i32_95
  let v92 : BitVec 32 := Scalar.addi v90 v91
  let c2_i32_90 : BitVec 32 := 2#32
  let v85 : BitVec 32 := Scalar.shrsi v2 c2_i32_90
  let c1_i32_91 : BitVec 32 := 1#32
  let v86 : BitVec 32 := Scalar.andi v85 c1_i32_91
  let c2_i32_96 : BitVec 32 := 2#32
  let v93 : BitVec 32 := Scalar.muli v86 c2_i32_96
  let v94 : BitVec 32 := Scalar.addi v92 v93
  let c3_i32_92 : BitVec 32 := 3#32
  let v87 : BitVec 32 := Scalar.shrsi v2 c3_i32_92
  let c1_i32_93 : BitVec 32 := 1#32
  let v88 : BitVec 32 := Scalar.andi v87 c1_i32_93
  let v95 : BitVec 32 := Scalar.addi v94 v88
  let c1_i32_295 : BitVec 32 := 1#32
  let v328 : BitVec 32 := Scalar.xori v95 c1_i32_295
  let v334 : BitVec 32 := Scalar.minsi v95 v328
  let c2_i32_319 : BitVec 32 := 2#32
  let v358 : BitVec 32 := Scalar.xori v334 c2_i32_319
  let v364 : BitVec 32 := Scalar.minsi v334 v358
  let c4_i32_342 : BitVec 32 := 4#32
  let v388 : BitVec 32 := Scalar.xori v364 c4_i32_342
  let v394 : BitVec 32 := Scalar.minsi v364 v388
  let c8_i32_365 : BitVec 32 := 8#32
  let v418 : BitVec 32 := Scalar.xori v394 c8_i32_365
  let c64_i32_368 : BitVec 32 := 64#32
  let v421 : BitVec 32 := Scalar.muli v418 c64_i32_368
  let v422 : Index := Scalar.indexCast v421
  let c0_369 : Index := 0#32
  ![v422.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x16384 : Shape := ⟨2, ![1024, 16384]⟩
abbrev S4x1024x32x128 : Shape := ⟨4, ![4, 1024, 32, 128]⟩
abbrev S16384x1024 : Shape := ⟨2, ![16384, 1024]⟩
abbrev S4x256x16384 : Shape := ⟨3, ![4, 256, 16384]⟩
abbrev S4x256x128x128 : Shape := ⟨4, ![4, 256, 128, 128]⟩
abbrev S4x1024x32x4x128 : Shape := ⟨5, ![4, 1024, 32, 4, 128]⟩
abbrev S4x1024x128x128 : Shape := ⟨4, ![4, 1024, 128, 128]⟩
abbrev S_ : Shape := ⟨0, ![]⟩
abbrev S4x128x256x1 : Shape := ⟨4, ![4, 128, 256, 1]⟩
abbrev S4x128x256x1024 : Shape := ⟨4, ![4, 128, 256, 1024]⟩
abbrev S4x128x256 : Shape := ⟨3, ![4, 128, 256]⟩
abbrev S4x256x128x1 : Shape := ⟨4, ![4, 256, 128, 1]⟩
abbrev S4x128x128x256 : Shape := ⟨4, ![4, 128, 128, 256]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x16384, .f32⟩
  | .hbm, ⟨2, _⟩ => ⟨S4x1024x32x128, .f32⟩
  | .hbm, ⟨3, _⟩ => ⟨S4x1024x32x128, .f32⟩
  | .hbm, ⟨4, _⟩ => ⟨S16384x1024, .f32⟩
  | .hbm, ⟨5, _⟩ => ⟨S4x256x16384, .f32⟩
  | .hbm, ⟨6, _⟩ => ⟨S4x256x128x128, .f32⟩
  | .hbm, ⟨7, _⟩ => ⟨S4x1024x32x4x128, .f32⟩
  | .hbm, ⟨8, _⟩ => ⟨S4x1024x128x128, .f32⟩
  | .hbm, ⟨9, _⟩ => ⟨S4x1024x32x4x128, .f32⟩
  | .hbm, ⟨10, _⟩ => ⟨S4x1024x128x128, .f32⟩
  | .hbm, ⟨11, _⟩ => ⟨S_, .f32⟩
  | .hbm, ⟨12, _⟩ => ⟨S4x256x128x128, .f32⟩
  | .hbm, ⟨13, _⟩ => ⟨S_, .f32⟩
  | .hbm, ⟨14, _⟩ => ⟨S4x128x256x1, .f32⟩
  | .hbm, ⟨15, _⟩ => ⟨S_, .f32⟩
  | .hbm, ⟨16, _⟩ => ⟨S4x128x256x1, .f32⟩
  | .hbm, ⟨17, _⟩ => ⟨S4x128x256x1024, .f32⟩
  | .hbm, ⟨18, _⟩ => ⟨S_, .f32⟩
  | .hbm, ⟨19, _⟩ => ⟨S4x128x256x1024, .f32⟩
  | .hbm, ⟨20, _⟩ => ⟨S4x128x256x1024, .f32⟩
  | .hbm, ⟨21, _⟩ => ⟨S_, .f32⟩
  | .hbm, ⟨22, _⟩ => ⟨S4x128x256, .f32⟩
  | .hbm, ⟨23, _⟩ => ⟨S4x128x256x1, .f32⟩
  | .hbm, ⟨24, _⟩ => ⟨S4x128x256x1, .f32⟩
  | .hbm, ⟨25, _⟩ => ⟨S4x128x256x1, .f32⟩
  | .hbm, ⟨26, _⟩ => ⟨S4x128x256x1, .f32⟩
  | .hbm, ⟨27, _⟩ => ⟨S4x128x256x1024, .f32⟩
  | .hbm, ⟨28, _⟩ => ⟨S4x128x256x1024, .f32⟩
  | .hbm, ⟨29, _⟩ => ⟨S4x128x256x1024, .f32⟩
  | .hbm, ⟨30, _⟩ => ⟨S4x128x256x1, .f32⟩
  | .hbm, ⟨31, _⟩ => ⟨S_, .f32⟩
  | .hbm, ⟨32, _⟩ => ⟨S4x128x256, .f32⟩
  | .hbm, ⟨33, _⟩ => ⟨S4x128x256x1, .f32⟩
  | .hbm, ⟨34, _⟩ => ⟨S4x128x256x1, .f32⟩
  | .hbm, ⟨35, _⟩ => ⟨S4x256x128x1, .f32⟩
  | .hbm, ⟨36, _⟩ => ⟨S4x256x128x128, .f32⟩
  | .hbm, ⟨37, _⟩ => ⟨S4x256x128x128, .f32⟩
  | .hbm, ⟨38, _⟩ => ⟨S4x128x128x256, .f32⟩
  | .hbm, ⟨39, _⟩ => ⟨S4x256x128x128, .f32⟩
  | .hbm, ⟨40, _⟩ => ⟨S4x256x128x128, .f32⟩
  | .hbm, ⟨41, _⟩ => ⟨S4x256x128x1, .f32⟩
  | .hbm, ⟨42, _⟩ => ⟨S4x256x128x128, .f32⟩
  | .hbm, ⟨43, _⟩ => ⟨S4x256x128x128, .f32⟩
  | .hbm, ⟨44, _⟩ => ⟨S4x256x16384, .f32⟩
  | .hbm, ⟨45, _⟩ => ⟨S4x256x1024, .f32⟩
  | .hbm, ⟨46, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Setup.lean ====
/-
# `Setup`: the devices, the rows each transfer moves, the buffers, and the steps on them

The kernel's eight transfers, numbered `j = 0 … 7` (four of the reduce-scatter, four of the all-gather), each exchange
a block of rows with the device whose number differs by the bits of `msk j`. This module states the closed forms of the
offsets the kernel computes, names its buffers, and restates the load and store rules for a buffer held whole in terms
of `VecWindow.window` and `VecWindow.put`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.Transfers

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

/-- The bits of the device number that transfer `j` flips. -/
def msk : Fin 8 → ℕ := ![1, 3, 4, 8, 8, 4, 3, 1]
/-- The exponent of transfer `j`'s block: it moves `64 * 2 ^ ex j` rows. -/
def ex : Fin 8 → ℕ := ![3, 2, 1, 0, 0, 1, 2, 3]
/-- How many rows transfer `j` moves. -/
def rws : Fin 8 → ℕ := ![512, 256, 128, 64, 64, 128, 256, 512]
/-- The first row of transfer `j`'s part of the send and receive buffers. -/
def ofs : Fin 8 → ℕ := ![0, 512, 768, 896, 0, 64, 192, 448]

theorem peer_lt : ∀ (j : Fin 8) (c : Dev nD), c.val ^^^ msk j < nD := by decide +kernel
/-- The device transfer `j` of `c` exchanges with. -/
def peer (j : Fin 8) (c : Dev nD) : Dev nD := ⟨c.val ^^^ msk j, peer_lt j c⟩
theorem peer_peer : ∀ (j : Fin 8) (c : Dev nD), peer j (peer j c) = c := by decide +kernel
theorem peer_bij (j : Fin 8) : Function.Bijective (peer j) := (show Function.Involutive (peer j) from peer_peer j).bijective

/-- The place of a device in the order the reduce-scatter leaves the rows in: device `c` ends up with the rows
    `64 * vix c … 64 * vix c + 63`. -/
def vix (c : Dev nD) : ℕ := ((c.val % 2) ^^^ (c.val / 2 % 2)) * 8 + (c.val / 2 % 2) * 4 + (c.val / 4 % 2) * 2 + c.val / 8

/-- The first row of the aligned block of `64 * 2 ^ e` rows that holds `c`'s final rows, -/
def mine (e : ℕ) (c : Dev nD) : ℕ := vix c / 2 ^ e * 2 ^ e * 64
/-- and the first row of the block beside it. -/
def oth (e : ℕ) (c : Dev nD) : ℕ := ((vix c / 2 ^ e) ^^^ 1) * 2 ^ e * 64

/-- The first row of what `c` sends in transfer `j`: the block beside its own when reducing, its own when gathering. -/
def sb (j : Fin 8) (c : Dev nD) : ℕ := if j.val < 4 then oth (ex j) c else mine (ex j) c
/-- The first row of what `c` receives in transfer `j`. -/
def kb (j : Fin 8) (c : Dev nD) : ℕ := if j.val < 4 then mine (ex j) c else oth (ex j) c

/-- What the partner sends is what the device receives. -/
theorem sb_peer : ∀ (j : Fin 8) (c : Dev nD), sb j (peer j c) = kb j c := by decide +kernel
theorem kb_peer : ∀ (j : Fin 8) (c : Dev nD), kb j (peer j c) = sb j c := by decide +kernel
theorem sb_inb : ∀ (j : Fin 8) (c : Dev nD), sb j c + rws j ≤ 1024 := by decide +kernel
theorem kb_inb : ∀ (j : Fin 8) (c : Dev nD), kb j c + rws j ≤ 1024 := by decide +kernel
theorem ofs_inb : ∀ j : Fin 8, ofs j + rws j ≤ 960 := by decide
theorem rws_pos : ∀ j : Fin 8, 0 < rws j := by decide

/-! ## The kernel's device and offset words in closed form -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 0 c := by decide +kernel
theorem dev6_eq : ∀ c : Dev nD, (⟨k0_dev6 c, k0_dev6_lt c⟩ : Dev nD) = peer 1 c := by decide +kernel
theorem dev7_eq : ∀ c : Dev nD, (⟨k0_dev7 c, k0_dev7_lt c⟩ : Dev nD) = peer 2 c := by decide +kernel
theorem dev8_eq : ∀ c : Dev nD, (⟨k0_dev8 c, k0_dev8_lt c⟩ : Dev nD) = peer 3 c := by decide +kernel
theorem dev9_eq : ∀ c : Dev nD, (⟨k0_dev9 c, k0_dev9_lt c⟩ : Dev nD) = peer 4 c := by decide +kernel
theorem dev10_eq : ∀ c : Dev nD, (⟨k0_dev10 c, k0_dev10_lt c⟩ : Dev nD) = peer 5 c := by decide +kernel
theorem dev11_eq : ∀ c : Dev nD, (⟨k0_dev11 c, k0_dev11_lt c⟩ : Dev nD) = peer 6 c := by decide +kernel
theorem dev12_eq : ∀ c : Dev nD, (⟨k0_dev12 c, k0_dev12_lt c⟩ : Dev nD) = peer 7 c := by decide +kernel

theorem off2_eq : ∀ (c : Dev nD) (t : Fin k0_t1_loop.trips), k0_off2 c t = ![sb 0 c + 256 * (t.val / 2), 512 * (t.val % 2)] := by decide +kernel
theorem off3_eq : ∀ (c : Dev nD) (t : Fin k0_t1_loop.trips), k0_off3 c t = ![t.val % 2, sb 0 c / 256 + t.val / 2, 0, 0] := by decide +kernel
theorem off5_eq : ∀ (c : Dev nD) (t : Fin k0_t2_loop.trips), k0_off5 c t = ![kb 0 c + 256 * (t.val / 2), 512 * (t.val % 2)] := by decide +kernel
theorem off6_eq : ∀ (c : Dev nD) (t : Fin k0_t2_loop.trips), k0_off6 c t = ![t.val % 2, kb 0 c / 256 + t.val / 2, 0, 0] := by decide +kernel
theorem off4a_eq : ∀ c : Dev nD, k0_off4 c 2#32 256#32 = ![sb 0 c, 0] := by decide +kernel
theorem off4b_eq : ∀ c : Dev nD, k0_off4 c 8#32 64#32 = ![sb 0 c, 0] := by decide +kernel
theorem off7a_eq : ∀ c : Dev nD, k0_off7 c 2#32 256#32 = ![kb 0 c, 0] := by decide +kernel
theorem off7b_eq : ∀ c : Dev nD, k0_off7 c 8#32 64#32 = ![kb 0 c, 0] := by decide +kernel
theorem off8_eq : ∀ c : Dev nD, k0_off8 c = ![sb 1 c, 0] := by decide +kernel
theorem off9_eq : ∀ c : Dev nD, k0_off9 c = ![kb 1 c, 0] := by decide +kernel
theorem off10_eq : ∀ c : Dev nD, k0_off10 c = ![sb 2 c, 0] := by decide +kernel
theorem off11_eq : ∀ c : Dev nD, k0_off11 c = ![kb 2 c, 0] := by decide +kernel
theorem off12_eq : ∀ c : Dev nD, k0_off12 c = ![sb 3 c, 0] := by decide +kernel
theorem off13_eq : ∀ c : Dev nD, k0_off13 c = ![kb 3 c, 0] := by decide +kernel
theorem off14_eq : ∀ c : Dev nD, k0_off14 c = ![sb 4 c, 0] := by decide +kernel
theorem off15_eq : ∀ c : Dev nD, k0_off15 c = ![kb 4 c, 0] := by decide +kernel
theorem off16_eq : ∀ c : Dev nD, k0_off16 c = ![sb 5 c, 0] := by decide +kernel
theorem off17_eq : ∀ c : Dev nD, k0_off17 c = ![kb 5 c, 0] := by decide +kernel
theorem off18_eq : ∀ c : Dev nD, k0_off18 c = ![sb 6 c, 0] := by decide +kernel
theorem off19_eq : ∀ c : Dev nD, k0_off19 c = ![kb 6 c, 0] := by decide +kernel
theorem off20_eq : ∀ c : Dev nD, k0_off20 c = ![sb 7 c, 0] := by decide +kernel
theorem off21_eq : ∀ c : Dev nD, k0_off21 c = ![kb 7 c, 0] := by decide +kernel

/-- How the blocks of one step follow from the one before: reducing, a device's kept block is cut into the block it
    sends next and the block it keeps next; -/
theorem cut_kb : ∀ (j : Fin 8) (h : j.val < 3) (c : Dev nD),
    (sb ⟨j + 1, by omega⟩ c = kb j c ∧ kb ⟨j + 1, by omega⟩ c = kb j c + rws ⟨j + 1, by omega⟩)
    ∨ (kb ⟨j + 1, by omega⟩ c = kb j c ∧ sb ⟨j + 1, by omega⟩ c = kb j c + rws ⟨j + 1, by omega⟩) := by decide +kernel
theorem rws_cut : ∀ (j : Fin 8) (h : j.val < 3), rws j = 2 * rws ⟨j + 1, by omega⟩ := by decide
/-- gathering, the block sent and the block received are together the block sent next. -/
theorem join_sb : ∀ (j : Fin 8) (h : 4 ≤ j.val) (h' : j.val < 7) (c : Dev nD),
    (sb ⟨j + 1, by omega⟩ c = sb j c ∧ kb j c = sb j c + rws j) ∨ (sb ⟨j + 1, by omega⟩ c = kb j c ∧ sb j c = kb j c + rws j) := by decide +kernel
theorem rws_join : ∀ (j : Fin 8) (h : 4 ≤ j.val) (h' : j.val < 7), rws ⟨j + 1, by omega⟩ = 2 * rws j := by decide
theorem cover0 : ∀ c : Dev nD, (sb 0 c = 0 ∧ kb 0 c = 512) ∨ (sb 0 c = 512 ∧ kb 0 c = 0) := by decide +kernel
theorem cover7 : ∀ c : Dev nD, (sb 7 c = 0 ∧ kb 7 c = 512) ∨ (sb 7 c = 512 ∧ kb 7 c = 0) := by decide +kernel
theorem sb4_kb3 : ∀ c : Dev nD, sb 4 c = kb 3 c := by decide +kernel

/-! ## The buffers -/

abbrev bX : Ref sig .tc := cc0_stg0_0
abbrev bWq : Ref sig .tc := cc0_stg1_0
abbrev bWo : Ref sig .tc := cc0_stg2_0
abbrev bOut : Ref sig .tc := cc0_stg3_0
abbrev bQ : Ref sig .tc := cc0_scratch0
abbrev bAttn : Ref sig .tc := cc0_scratch1
abbrev bPart : Ref sig .tc := cc0_scratch2
abbrev bSend : Ref sig .tc := cc0_scratch3
abbrev bRs : Ref sig .tc := cc0_scratch4
abbrev bAg : Ref sig .tc := cc0_scratch5
abbrev bK : Ref sig .tc := cc0_scratch6
abbrev bV : Ref sig .tc := cc0_scratch7

section Windows
variable {Val : EltTy → Type}

/-- A load through a rectangle of a whole buffer reads the window there. -/
theorem readAt_whole (b : Ref sig .tc) (f : b.ty.Contents Val) {off off' size : Fin b.ty.shape.rank → ℕ}
    (inb : ∀ a, off a + size a ≤ b.ty.shape.size a) (h : off = off') (inb' : ∀ a, off' a + size a ≤ b.ty.shape.size a) :
    (Memref.whole b).view.readAt Val (Rect.unit off size inb).toLoadRect f = VecWindow.window f off' size inb' := by
  subst h; rfl

/-- A store through a rectangle of a whole buffer puts the payload over the window there. -/
theorem write_whole (b : Ref sig .tc) (f : b.ty.Contents Val) {off off' size : Fin b.ty.shape.rank → ℕ}
    (inb : ∀ a, off a + size a ≤ b.ty.shape.size a) (w : (Rect.unit off size inb).shape.Idx → Val b.ty.elt) (h : off = off') :
    ((Memref.whole b).access (Rect.unit off size inb)).write Val f w Finset.univ = VecWindow.put f off' size w := by
  have := View.read_writes_cons_put (View.whole b) f inb w [] h
  simpa using this
end Windows

end Cert.KProof

end
-- ==== Proof.Values.lean ====
/-
# `Values`: what the buffers hold, as functions of the arguments

Everything is stated for the float values of any interpretation. `Attn c` is the attention output of device `c`'s
eight heads, `X 0 c` its product with `Wo`'s block, `X j c` (`j = 1 … 4`) the partial sums after `j` reduce-scatter
steps and `X (4 + s) c` the gathered rows after `s` all-gather steps: a device's buffer agrees with them on the rows it
has reached, which `On` states. `landed j c` is what transfer `j` leaves in device `c`'s receive buffer.
-/
module

public import proofs.«01_k».proof.Proof.Setup
public import Idealize.ShloMosaic.Lib.PointwiseCore

@[expose] public section

set_option maxRecDepth 16384

noncomputable section

namespace Cert.KProof

open Cert.KernelIdeal Cert.KernelIdeal.Gen
open Idealize.ShloMosaic Idealize.ShloMosaic.TcCoe
open Idealize.SL.Sem

variable {F : FTy → Type} [FloatOps F]

/-! ## Rows of a buffer -/

/-- The row of an index. -/
abbrev row {R : ℕ} (i : (⟨2, ![R, 1024]⟩ : Shape).Idx) : ℕ := (i 0).val

/-- `f` and `g` agree on the rows `o … o + n - 1`. -/
def On {R : ℕ} {α : Type} (f g : (⟨2, ![R, 1024]⟩ : Shape).Idx → α) (o n : ℕ) : Prop :=
  ∀ i, o ≤ row i → row i < o + n → f i = g i

theorem On.mono {R : ℕ} {α : Type} {f g : (⟨2, ![R, 1024]⟩ : Shape).Idx → α} {o n o' n' : ℕ} (h : On f g o n) (h1 : o ≤ o')
    (h2 : o' + n' ≤ o + n) : On f g o' n' := fun i a b => h i (by omega) (by omega)

theorem rows_inb {R o n : ℕ} (h : o + n ≤ R) :
    ∀ a : Fin 2, (![o, 0] : Fin 2 → ℕ) a + (![n, 1024] : Fin 2 → ℕ) a ≤ (⟨2, ![R, 1024]⟩ : Shape).size a := by
  intro a; fin_cases a
  · exact h
  · exact le_refl 1024

/-- The rows `o … o + n - 1` of `f`. -/
def rd {R : ℕ} {α : Type} (f : (⟨2, ![R, 1024]⟩ : Shape).Idx → α) (o n : ℕ) (h : o + n ≤ R) (i : (⟨2, ![n, 1024]⟩ : Shape).Idx) : α :=
  f (ix2 ⟨o + (i 0).val, by have := (i 0).isLt; simp at this; omega⟩ (i 1))

theorem window_rows {R o n : ℕ} {α : Type} (f : (⟨2, ![R, 1024]⟩ : Shape).Idx → α) (h : o + n ≤ R)
    (inb : ∀ a : Fin 2, (![o, 0] : Fin 2 → ℕ) a + (![n, 1024] : Fin 2 → ℕ) a ≤ (⟨2, ![R, 1024]⟩ : Shape).size a) :
    VecWindow.window f ![o, 0] ![n, 1024] inb = rd f o n h := by
  funext i
  refine congrArg f (funext fun a => ?_)
  fin_cases a
  · exact Fin.ext (by show o + 1 * (i 0).val = o + (i 0).val; omega)
  · exact Fin.ext (by show 0 + 1 * (i 1).val = (i 1).val; omega)

/-- `f` with `w` over the rows `o … o + n - 1`. -/
def pt {R : ℕ} {α : Type} (f : (⟨2, ![R, 1024]⟩ : Shape).Idx → α) (o n : ℕ) (w : (⟨2, ![n, 1024]⟩ : Shape).Idx → α) :
    (⟨2, ![R, 1024]⟩ : Shape).Idx → α := VecWindow.put f ![o, 0] ![n, 1024] w

theorem pt_in {R : ℕ} {α : Type} (f : (⟨2, ![R, 1024]⟩ : Shape).Idx → α) (o n : ℕ) (w : (⟨2, ![n, 1024]⟩ : Shape).Idx → α)
    (i : (⟨2, ![R, 1024]⟩ : Shape).Idx) (h1 : o ≤ row i) (h2 : row i < o + n) :
    pt f o n w i = w (ix2 ⟨row i - o, by omega⟩ (i 1)) := by
  unfold pt VecWindow.put
  have hh : ∀ a : Fin 2, (![o, 0] : Fin 2 → ℕ) a ≤ (i a).val ∧ (i a).val < (![o, 0] : Fin 2 → ℕ) a + (![n, 1024] : Fin 2 → ℕ) a := by
    intro a; fin_cases a
    · exact ⟨h1, h2⟩
    · exact ⟨Nat.zero_le _, by show (i 1).val < 0 + 1024; have h := (i 1).isLt; simp only [Nat.zero_add]; exact h⟩
  rw [dif_pos hh]
  refine congrArg w (funext fun a => ?_)
  fin_cases a
  · rfl
  · exact Fin.ext (by show (i 1).val - 0 = (i 1).val; omega)

theorem pt_out {R : ℕ} {α : Type} (f : (⟨2, ![R, 1024]⟩ : Shape).Idx → α) (o n : ℕ) (w : (⟨2, ![n, 1024]⟩ : Shape).Idx → α)
    (i : (⟨2, ![R, 1024]⟩ : Shape).Idx) (h : ¬ (o ≤ row i ∧ row i < o + n)) : pt f o n w i = f i := by
  unfold pt VecWindow.put
  exact dif_neg fun hh => h (hh 0)

/-- Over the rows just written the buffer is whatever reads the payload there; -/
theorem On.put {R : ℕ} {α : Type} {f g : (⟨2, ![R, 1024]⟩ : Shape).Idx → α} {o n : ℕ} {w : (⟨2, ![n, 1024]⟩ : Shape).Idx → α}
    (h : o + n ≤ R) (hw : w = rd g o n h) : On (pt f o n w) g o n := by
  intro i h1 h2
  rw [pt_in _ _ _ _ _ h1 h2, hw]
  refine congrArg g (funext fun a => ?_)
  fin_cases a
  · exact Fin.ext (by show o + (row i - o) = row i; omega)
  · rfl

/-- over other rows it is what it was. -/
theorem On.put_of_disjoint {R : ℕ} {α : Type} {f g : (⟨2, ![R, 1024]⟩ : Shape).Idx → α} {o n o' n' : ℕ}
    {w : (⟨2, ![n, 1024]⟩ : Shape).Idx → α} (h : On f g o' n') (hd : o' + n' ≤ o ∨ o + n ≤ o') : On (pt f o n w) g o' n' := by
  intro i h1 h2
  rw [pt_out _ _ _ _ _ (by omega)]
  exact h i h1 h2

/-- Reading rows on which two buffers agree. -/
theorem On.rd {R : ℕ} {α : Type} {f g : (⟨2, ![R, 1024]⟩ : Shape).Idx → α} {o n : ℕ} (h : On f g o n) (h' : o + n ≤ R) :
    rd f o n h' = rd g o n h' := by
  funext i
  have hi : (i 0).val < n := (i 0).isLt
  exact h _ (by show o ≤ o + (i 0).val; omega) (by show o + (i 0).val < o + n; omega)

/-! ## Rounding, elementwise -/

/-- An `f32` rounded to `bf16`, -/
def tr (x : F .f32) : F .bf16 := FloatOps.truncf .bf16 bitsLt_bf16_f32 x
/-- and a `bf16` as an `f32`. -/
def xt (x : F .bf16) : F .f32 := FloatOps.extf .f32 bitsLt_bf16_f32 x

theorem pay9_eq (v : Vec F S512x1024 .f32) : k0_pay9 v = fun i => tr (v i) := by unfold k0_pay9; simp only [shapeCast_id]; rfl
theorem pay13_eq (v : Vec F S256x1024 .f32) : k0_pay13 v = fun i => tr (v i) := by unfold k0_pay13; simp only [shapeCast_id]; rfl
theorem pay16_eq (v : Vec F S128x1024 .f32) : k0_pay16 v = fun i => tr (v i) := by unfold k0_pay16; simp only [shapeCast_id]; rfl
theorem pay18_eq (v : Vec F S64x1024 .f32) : k0_pay18 v = fun i => tr (v i) := by unfold k0_pay18; simp only [shapeCast_id]; rfl
theorem pay20_eq (v : Vec F S64x1024 .f32) : k0_pay20 v = fun i => tr (v i) := by unfold k0_pay20; simp only [shapeCast_id]; rfl
theorem pay22_eq (v : Vec F S128x1024 .f32) : k0_pay22 v = fun i => tr (v i) := by unfold k0_pay22; simp only [shapeCast_id]; rfl
theorem pay24_eq (v : Vec F S256x1024 .f32) : k0_pay24 v = fun i => tr (v i) := by unfold k0_pay24; simp only [shapeCast_id]; rfl
theorem pay26_eq (v : Vec F S512x1024 .f32) : k0_pay26 v = fun i => tr (v i) := by unfold k0_pay26; simp only [shapeCast_id]; rfl
theorem pay21_eq (v : Vec F S64x1024 .bf16) : k0_pay21 v = fun i => xt (v i) := rfl
theorem pay23_eq (v : Vec F S128x1024 .bf16) : k0_pay23 v = fun i => xt (v i) := rfl
theorem pay25_eq (v : Vec F S256x1024 .bf16) : k0_pay25 v = fun i => xt (v i) := rfl
theorem pay27_eq (v : Vec F S512x1024 .bf16) : k0_pay27 v = fun i => xt (v i) := rfl
theorem pay12_eq (a : Vec F S512x1024 .f32) (b : Vec F S512x1024 .bf16) : k0_pay12 a b = fun i => FloatOps.addf (a i) (xt (b i)) := by
  unfold k0_pay12; simp only [shapeCast_id]; rfl
theorem pay15_eq (a : Vec F S256x1024 .f32) (b : Vec F S256x1024 .bf16) :
    k0_pay15 (k0_pay14 a b) = fun i => FloatOps.addf (a i) (xt (b i)) := by unfold k0_pay15 k0_pay14; simp only [shapeCast_id]; rfl
theorem pay17_eq (a : Vec F S128x1024 .f32) (b : Vec F S128x1024 .bf16) : k0_pay17 a b = fun i => FloatOps.addf (a i) (xt (b i)) := by
  unfold k0_pay17; simp only [shapeCast_id]; rfl
theorem pay19_eq (a : Vec F S64x1024 .f32) (b : Vec F S64x1024 .bf16) : k0_pay19 a b = fun i => FloatOps.addf (a i) (xt (b i)) := by
  unfold k0_pay19; simp only [shapeCast_id]; rfl

/-! ## Contents -/

variable (m : (ℓ : Loc nD τ sig) → Buf (Elt F) ℓ)

/-- Device `c`'s copy of `x`, its block of `Wq`, its block of `Wo`, -/
def xC (c : Dev nD) : (S4x256x1024 : Shape).Idx → F .f32 := m ((c : Thread nD τ).loc main_arg0)
def wqC (c : Dev nD) : (S1024x1024 : Shape).Idx → F .f32 := m ((c : Thread nD τ).loc main_arg1)
def woC (c : Dev nD) : (S1024x1024 : Shape).Idx → F .f32 := m ((c : Thread nD τ).loc main_arg4)
/-- its copies of the keys and the values. -/
def kC (c : Dev nD) : (S4x1024x32x128 : Shape).Idx → F .f32 := m ((c : Thread nD τ).loc main_arg2)
def vC (c : Dev nD) : (S4x1024x32x128 : Shape).Idx → F .f32 := m ((c : Thread nD τ).loc main_arg3)

theorem head_lt (c : Dev nD) (g : Fin 2) : 2 * c.val + g.val < 32 := by have h : c.val < 16 := c.isLt; omega

/-- The two key heads (or value heads) device `c` works on, cut out of all 32: head `g` of its two. -/
def stg (c : Dev nD) (A : (S4x1024x32x128 : Shape).Idx → F .f32) (i : (S2x4x1024x128 : Shape).Idx) : F .f32 :=
  A (ix4 (i 1) (i 2) ⟨2 * c.val + (i 0).val, head_lt c (i 0)⟩ (i 3))

/-- Device `c`'s scaled queries. -/
def Qf (c : Dev nD) : (S1024x1024 : Shape).Idx → F .bf16 := k0_pay6 (k0_pay5 (xC m c)) (wqC m c)

theorem qblk_inb (b g : ℕ) (hb : b < 4) (hg : g < 2) :
    ∀ a : Fin 2, (![256 * b, 512 * g] : Fin 2 → ℕ) a + S256x512.size a ≤ S1024x1024.size a := by
  intro a; fin_cases a
  · show 256 * b + 256 ≤ 1024; omega
  · show 512 * g + 512 ≤ 1024; omega
theorem kblk_inb (b g : ℕ) (hb : b < 4) (hg : g < 2) :
    ∀ a : Fin 4, (![g, b, 0, 0] : Fin 4 → ℕ) a + S1x1x1024x128.size a ≤ S2x4x1024x128.size a := by
  intro a; fin_cases a
  · show g + 1 ≤ 2; omega
  · show b + 1 ≤ 4; omega
  · show 0 + 1024 ≤ 1024; omega
  · show 0 + 128 ≤ 128; omega

/-- The attention of batch element `b` and device `c`'s key head `g`, for its four query heads. -/
def AttnB (c : Dev nD) (b g : ℕ) (hb : b < 4) (hg : g < 2) : (S256x512 : Shape).Idx → F .bf16 :=
  k0_pay7 (k0_pay1 (VecWindow.window (Qf m c) ![256 * b, 512 * g] S256x512.size (qblk_inb b g hb hg)))
    (k0_pay2 (VecWindow.window (stg c (kC m c)) ![g, b, 0, 0] S1x1x1024x128.size (kblk_inb b g hb hg)))
    (VecWindow.window (stg c (vC m c)) ![g, b, 0, 0] S1x1x1024x128.size (kblk_inb b g hb hg))

theorem col_lt (i : (S1024x1024 : Shape).Idx) : (i 1).val < 1024 := (i 1).isLt
theorem row_lt (i : (S1024x1024 : Shape).Idx) : (i 0).val < 1024 := (i 0).isLt

/-- Device `c`'s attention output, block by block. -/
def Attn (c : Dev nD) (i : (S1024x1024 : Shape).Idx) : F .bf16 :=
  AttnB m c ((i 0).val / 256) ((i 1).val / 512) (by have := row_lt i; omega) (by have := col_lt i; omega)
    (ix2 ⟨(i 0).val % 256, Nat.mod_lt _ (by decide)⟩ ⟨(i 1).val % 512, Nat.mod_lt _ (by decide)⟩)

theorem half_inb (h : ℕ) (hh : h < 2) : 512 * h + 512 ≤ 1024 := by omega

/-- The half `h` of device `c`'s partial product. -/
def PartH (c : Dev nD) (h : ℕ) (hh : h < 2) : (S512x1024 : Shape).Idx → F .f32 :=
  k0_pay8 (rd (Attn m c) (512 * h) 512 (half_inb h hh)) (woC m c)

/-- What the row `i` holds after `j` steps on device `c`. -/
def X : ℕ → Dev nD → (S1024x1024 : Shape).Idx → F .f32
  | 0, c, i => PartH m c ((i 0).val / 512) (by have := row_lt i; omega) (ix2 ⟨(i 0).val % 512, Nat.mod_lt _ (by decide)⟩ (i 1))
  | j + 1, c, i =>
    if h : j < 8 then
      (if j < 4 then FloatOps.addf (X j c i) (xt (tr (X j (peer ⟨j, h⟩ c) i)))
       else if sb ⟨j, h⟩ c ≤ (i 0).val ∧ (i 0).val < sb ⟨j, h⟩ c + rws ⟨j, h⟩ then X j c i
       else xt (tr (X j (peer ⟨j, h⟩ c) i)))
    else X j c i

theorem X_rs (j : Fin 8) (hj : j.val < 4) (c : Dev nD) (i : (S1024x1024 : Shape).Idx) :
    X m (j.val + 1) c i = FloatOps.addf (X m j.val c i) (xt (tr (X m j.val (peer j c) i))) := by
  rw [X, dif_pos j.isLt, if_pos hj]

theorem X_ag_in (j : Fin 8) (hj : 4 ≤ j.val) (c : Dev nD) (i : (S1024x1024 : Shape).Idx)
    (h1 : sb j c ≤ (i 0).val) (h2 : (i 0).val < sb j c + rws j) : X m (j.val + 1) c i = X m j.val c i := by
  rw [X, dif_pos j.isLt, if_neg (by omega), if_pos ⟨h1, h2⟩]

theorem X_ag_out (j : Fin 8) (hj : 4 ≤ j.val) (c : Dev nD) (i : (S1024x1024 : Shape).Idx)
    (h : ¬ (sb j c ≤ (i 0).val ∧ (i 0).val < sb j c + rws j)) : X m (j.val + 1) c i = xt (tr (X m j.val (peer j c) i)) := by
  rw [X, dif_pos j.isLt, if_neg (by omega), if_neg h]

/-- What transfer `j` carries from `c`: the rows it sends, rounded. -/
def sent (j : Fin 8) (c : Dev nD) : (⟨2, ![rws j, 1024]⟩ : Shape).Idx → F .bf16 :=
  fun i => tr (rd (X m j.val c) (sb j c) (rws j) (sb_inb j c) i)

/-- The rows device `c` receives in transfer `j`: what its partner sends. -/
def got (j : Fin 8) (c : Dev nD) : (⟨2, ![rws j, 1024]⟩ : Shape).Idx → F .bf16 := sent m j (peer j c)

theorem got_eq (j : Fin 8) (c : Dev nD) :
    got m j c = fun i => tr (rd (X m j.val (peer j c)) (kb j c) (rws j) (kb_inb j c) i) := by
  funext i
  unfold got sent
  congr 1
  unfold rd
  congr 2
  exact Fin.ext (by show sb j (peer j c) + _ = kb j c + _; rw [sb_peer])

/-- One reduce-scatter step: the rows kept, with the rows received added. -/
theorem rs_step (j : Fin 8) (hj : j.val < 4) (c : Dev nD) {f : (S1024x1024 : Shape).Idx → F .f32}
    (h : On f (X m j.val c) (kb j c) (rws j)) :
    On (pt f (kb j c) (rws j) (fun i => FloatOps.addf (rd f (kb j c) (rws j) (kb_inb j c) i) (xt (got m j c i)))) (X m (j.val + 1) c)
      (kb j c) (rws j) := by
  refine On.put (kb_inb j c) ?_
  rw [h.rd (kb_inb j c), got_eq]
  funext i
  unfold rd
  rw [X_rs m j hj]

/-- One all-gather step: the rows received beside the rows held. -/
theorem ag_step (j : Fin 8) (hj : 4 ≤ j.val) (c : Dev nD) {f : (S1024x1024 : Shape).Idx → F .f32}
    (h : On f (X m j.val c) (sb j c) (rws j)) (hd : kb j c + rws j ≤ sb j c ∨ sb j c + rws j ≤ kb j c) :
    On (pt f (kb j c) (rws j) (fun i => xt (got m j c i))) (X m (j.val + 1) c) (kb j c) (rws j)
      ∧ On (pt f (kb j c) (rws j) (fun i => xt (got m j c i))) (X m (j.val + 1) c) (sb j c) (rws j) := by
  constructor
  · refine On.put (kb_inb j c) ?_
    rw [got_eq]
    funext i
    have hi : (i 0).val < rws j := (i 0).isLt
    unfold rd
    rw [X_ag_out m j hj]
    intro hh
    have h1 : sb j c ≤ kb j c + (i 0).val := hh.1
    have h2 : kb j c + (i 0).val < sb j c + rws j := hh.2
    omega
  · intro i h1 h2
    rw [X_ag_in m j hj c i h1 h2, pt_out _ _ _ _ _ (by omega)]
    exact h i h1 h2

end Cert.KProof

end
-- ==== Proof.Reduce.lean ====
/- Over extended reals: after the eight exchanges every device holds the sum of the sixteen partial products. -/
module

public import Idealize.ShloMosaic.Lib.Pointwise
public import proofs.«01_k».proof.Proof.Values

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt Ideal) ℓ)

/-- The devices whose partial products are in device `c`'s sum after `j` reduce-scatter steps. -/
def reach : ℕ → Dev nD → Finset (Dev nD)
  | 0, c => {c}
  | j + 1, c => if h : j < 8 then reach j c ∪ reach j (peer ⟨j, h⟩ c) else reach j c

theorem reach_disjoint : ∀ (j : Fin 4) (c : Dev nD), Disjoint (reach j.val c) (reach j.val (peer ⟨j.val, by omega⟩ c)) := by
  decide +kernel

theorem reach_four : ∀ c : Dev nD, reach 4 c = Finset.univ := by decide +kernel

/-- Rounding to `bf16` and back changes no extended real. -/
theorem xt_tr (x : Ideal .f32) : xt (F := Ideal) (tr x) = x := rfl

/-- The reduce-scatter steps add up the partial products of the devices reached; -/
theorem X_reach (j : ℕ) (hj : j ≤ 4) (c : Dev nD) (i : (S1024x1024 : Shape).Idx) :
    X m j c i = ∑ d ∈ reach j c, (X m 0 d i : EReal) := by
  induction j generalizing c with
  | zero => rw [reach, Finset.sum_singleton]
  | succ j ih =>
    have h8 : j < 8 := by omega
    rw [X_rs m ⟨j, h8⟩ (by show j < 4; omega), xt_tr, ih (by omega), ih (by omega), reach, dif_pos h8,
      Finset.sum_union (reach_disjoint ⟨j, by omega⟩ c)]
    rfl

/-- the all-gather steps keep the sum. -/
theorem X_total (j : ℕ) (hj : j ≤ 4) (c : Dev nD) (i : (S1024x1024 : Shape).Idx) :
    X m (4 + j) c i = ∑ d : Dev nD, (X m 0 d i : EReal) := by
  induction j generalizing c with
  | zero => rw [X_reach m 4 le_rfl, reach_four]
  | succ j ih =>
    have h8 : 4 + j < 8 := by omega
    by_cases h : sb ⟨4 + j, h8⟩ c ≤ (i 0).val ∧ (i 0).val < sb ⟨4 + j, h8⟩ c + rws ⟨4 + j, h8⟩
    · exact (X_ag_in m ⟨4 + j, h8⟩ (by show 4 ≤ 4 + j; omega) c i h.1 h.2).trans (ih (by omega) c)
    · exact (X_ag_out m ⟨4 + j, h8⟩ (by show 4 ≤ 4 + j; omega) c i h).trans (ih (by omega) _)

/-- The result on every device. -/
theorem X_eight (c : Dev nD) (i : (S1024x1024 : Shape).Idx) : X m 8 c i = ∑ d : Dev nD, (X m 0 d i : EReal) :=
  X_total m 4 le_rfl c i

end Cert.KProof

end
-- ==== Proof.Heads.lean ====
/- Over extended reals: a device's partial product, element by element. -/
module

public import Idealize.ShloMosaic.Lib.Pointwise
public import proofs.«01_k».proof.Proof.Values

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt Ideal) ℓ)

/-! ## Softmax attention of one row -/

/-- The greatest score of a row (`-∞` where there is none). -/
def rowMax (f : Fin 1024 → EReal) : EReal := Finset.fold max (Ideal.ofBits .f32 0xFF800000#32) f Finset.univ

/-- The weight of a score. -/
def weight (f : Fin 1024 → EReal) (t : Fin 1024) : EReal := Ideal.exp (f t - rowMax f)

/-- A row's values, averaged with the softmax of its scores. -/
def attend (f v : Fin 1024 → EReal) : EReal := Ideal.div (∑ t, weight f t * v t) (∑ t, weight f t)

/-- The scale of the scores. -/
def scale : EReal := Ideal.ofBits .f32 0x3DB504F3#32

theorem scale_eq : scale = ((11863283 * (2 : ℝ) ^ (-27 : ℤ) : ℝ) : EReal) := by
  unfold scale
  simp [Ideal.ofBits, Ideal.ieee]

theorem scale_nonneg : 0 ≤ scale := by
  rw [scale_eq]; exact_mod_cast (by positivity : (0 : ℝ) ≤ 11863283 * (2 : ℝ) ^ (-27 : ℤ))

theorem scale_ne_top : scale ≠ ⊤ := by rw [scale_eq]; exact EReal.coe_ne_top _

/-- Scaling a sum is scaling its terms, whatever extended reals they are. -/
theorem sum_scale {ι : Type} (s : Finset ι) (f : ι → EReal) : (∑ i ∈ s, f i) * scale = ∑ i ∈ s, f i * scale := by
  classical
  induction s using Finset.induction_on with
  | empty => simp
  | insert a s ha ih => rw [Finset.sum_insert ha, Finset.sum_insert ha, EReal.right_distrib_of_nonneg_of_ne_top scale_nonneg scale_ne_top, ih]

/-! ## The kernel's products, element by element -/

theorem pay6_apply (x : Vec Ideal S4x256x1024 .f32) (w : Vec Ideal S1024x1024 .f32) (r n : Fin 1024) :
    k0_pay6 (F := Ideal) (k0_pay5 x) w (ix2 r n)
      = (∑ k : Fin 1024, x (ix3 (⟨r.val / 256, by omega⟩ : Fin 4) (⟨r.val % 256, by omega⟩ : Fin 256) k) * w (ix2 k n)) * scale := by
  pointwise [k0_pay6, k0_pay5]
  rfl

theorem pay7_apply (q : Vec Ideal S256x512 .bf16) (k v : Vec Ideal S1x1x1024x128 .f32) (s : Fin 256) (n : Fin 512) :
    k0_pay7 (F := Ideal) (k0_pay1 q) (k0_pay2 k) v (ix2 s n)
      = attend (fun t => ∑ d : Fin 128, q (ix2 s (⟨n.val / 128 * 128 + d.val, by omega⟩ : Fin 512)) * k (ix4 (0 : Fin 1) (0 : Fin 1) t d))
          (fun t => v (ix4 (0 : Fin 1) (0 : Fin 1) t (⟨n.val % 128, by omega⟩ : Fin 128))) := by
  have e1 : (s.val * 4 + n.val / 128) % 4 = n.val / 128 := by omega
  have e2 : (s.val * 4 + n.val / 128) / 4 = s.val := by omega
  pointwise [k0_pay7, k0_pay1, k0_pay2]
  simp only [e1, e2, Fin.eta]
  rfl

theorem pay8_apply (a : Vec Ideal S512x1024 .bf16) (w : Vec Ideal S1024x1024 .f32) (r : Fin 512) (n : Fin 1024) :
    k0_pay8 (F := Ideal) a w (ix2 r n) = ∑ k : Fin 1024, a (ix2 r k) * w (ix2 k n) := by
  pointwise [k0_pay8]

/-! ## A device's share -/

theorem kv_lt (c : Dev nD) (n : Fin 1024) : 2 * c.val + n.val / 512 < 32 := by have h : c.val < 16 := c.isLt; omega

/-- A device's attention output. -/
theorem Attn_apply (c : Dev nD) (r n : Fin 1024) :
    Attn m c (ix2 r n)
      = attend (fun t => ∑ d : Fin 128, Qf m c (ix2 r (⟨n.val / 128 * 128 + d.val, by omega⟩ : Fin 1024))
            * kC m c (ix4 (⟨r.val / 256, by omega⟩ : Fin 4) t (⟨2 * c.val + n.val / 512, kv_lt c n⟩ : Fin 32) d))
          (fun t => vC m c (ix4 (⟨r.val / 256, by omega⟩ : Fin 4) t (⟨2 * c.val + n.val / 512, kv_lt c n⟩ : Fin 32)
            (⟨n.val % 128, by omega⟩ : Fin 128))) := by
  have e := pay7_apply (VecWindow.window (Qf m c) ![256 * (r.val / 256), 512 * (n.val / 512)] S256x512.size (qblk_inb _ _ (by omega) (by omega)))
    (VecWindow.window (stg c (kC m c)) ![n.val / 512, r.val / 256, 0, 0] S1x1x1024x128.size (kblk_inb _ _ (by omega) (by omega)))
    (VecWindow.window (stg c (vC m c)) ![n.val / 512, r.val / 256, 0, 0] S1x1x1024x128.size (kblk_inb _ _ (by omega) (by omega)))
    ⟨r.val % 256, by omega⟩ ⟨n.val % 512, by omega⟩
  unfold Attn AttnB
  refine Eq.trans e ?_
  refine congrArg₂ attend ?_ ?_
  · funext t
    refine Finset.sum_congr rfl fun d _ => ?_
    refine congrArg₂ (fun a b : EReal => a * b) ?_ ?_
    · refine congrArg (Qf m c) (funext fun a => ?_)
      fin_cases a
      · exact Fin.ext (by show 256 * (r.val / 256) + 1 * (r.val % 256) = r.val; omega)
      · exact Fin.ext (by show 512 * (n.val / 512) + 1 * (n.val % 512 / 128 * 128 + d.val) = n.val / 128 * 128 + d.val; omega)
    · refine congrArg (kC m c) (funext fun a => ?_)
      fin_cases a
      · exact Fin.ext (by show r.val / 256 + 0 = r.val / 256; omega)
      · exact Fin.ext (by show 0 + 1 * t.val = t.val; omega)
      · exact Fin.ext (by show 2 * c.val + (n.val / 512 + 0) = 2 * c.val + n.val / 512; omega)
      · exact Fin.ext (by show 0 + 1 * d.val = d.val; omega)
  · funext t
    refine congrArg (vC m c) (funext fun a => ?_)
    fin_cases a
    · exact Fin.ext (by show r.val / 256 + 0 = r.val / 256; omega)
    · exact Fin.ext (by show 0 + 1 * t.val = t.val; omega)
    · exact Fin.ext (by show 2 * c.val + (n.val / 512 + 0) = 2 * c.val + n.val / 512; omega)
    · exact Fin.ext (by show 0 + 1 * (n.val % 512 % 128) = n.val % 128; omega)

/-- A device's partial product. -/
theorem X_zero_apply (c : Dev nD) (r n : Fin 1024) :
    X m 0 c (ix2 r n) = ∑ k : Fin 1024, (Attn m c (ix2 r k) * woC m c (ix2 k n) : EReal) := by
  refine (pay8_apply (rd (Attn m c) (512 * (r.val / 512)) 512 (half_inb _ (by omega))) (woC m c) ⟨r.val % 512, by omega⟩ n).trans ?_
  refine Finset.sum_congr rfl fun k _ => ?_
  refine congrArg (fun a : EReal => a * woC m c (ix2 k n)) ?_
  refine congrArg (Attn m c) (funext fun a => ?_)
  fin_cases a
  · exact Fin.ext (by show 512 * (r.val / 512) + r.val % 512 = r.val; omega)
  · rfl

end Cert.KProof

end
-- ==== Proof.Ref.lean ====
/- Over extended reals: the reference's result, element by element. -/
module

public import Idealize.ShloMosaic.Lib.Pointwise
public import proofs.«01_k».proof.Proof.Gen.ReferenceIdeal.Run
public import proofs.«01_k».proof.Proof.Heads

@[expose] public section

set_option maxRecDepth 16384

noncomputable section

namespace Cert.RefProof

open Cert.ReferenceIdeal Cert.ReferenceIdeal.Gen
open Idealize.ShloMosaic Idealize.ShloMosaic.TcCoe
open Cert.KProof (attend weight rowMax scale)

/-! ## The reference's stages -/

/-- The queries, by head. -/
def queries (x : FVec Ideal S4x256x1024 .f32) (w : FVec Ideal S1024x16384 .f32) : FVec Ideal S4x256x128x128 .f32 :=
  shapeCast _ (Host.dotGeneral dot_S4x256x1024_S1024x16384_S4x256x16384_2_0_01_1_n_n none x w) shapeCasts_S4x256x16384_S4x256x128x128

/-- Keys or values, each head repeated for the four query heads that use it. -/
def repeated (k : FVec Ideal S4x1024x32x128 .f32) : FVec Ideal S4x1024x128x128 .f32 :=
  shapeCast _ (broadcastInDim S4x1024x32x4x128 ![0, 1, 2, 4] bcast_S4x1024x32x128_S4x1024x32x4x128_0_1_2_4 k)
    shapeCasts_S4x1024x32x4x128_S4x1024x128x128

/-- The scaled scores. -/
def scores (q : FVec Ideal S4x256x128x128 .f32) (k : FVec Ideal S4x1024x128x128 .f32) : FVec Ideal S4x128x256x1024 .f32 :=
  mulf (Host.dotGeneral dot_S4x256x128x128_S4x1024x128x128_S4x128x256x1024_3_3_1_1_02_02 none q k)
    (broadcastInDim S4x128x256x1024 ![] bcast_S_S4x128x256x1024 (constant S_ .f32 0x3DB504F3#32))

/-- The greatest score of each row. -/
def tops (s : FVec Ideal S4x128x256x1024 .f32) : FVec Ideal S4x128x256 .f32 :=
  Host.reduce FloatOps.maximumf s (constant S_ .f32 0xFF800000#32) reducesTo_S4x128x256x1024_S4x128x256_d3 h_S_

/-- `-∞` for every row, -/
def lowest : FVec Ideal S4x128x256x1 .f32 := broadcastInDim S4x128x256x1 ![] bcast_S_S4x128x256x1 (constant S_ .f32 0xFF800000#32)

/-- and a number per row as a column. -/
def column (u : FVec Ideal S4x128x256 .f32) : FVec Ideal S4x128x256x1 .f32 :=
  broadcastInDim S4x128x256x1 ![0, 1, 2] bcast_S4x128x256_S4x128x256x1_0_1_2 u

/-- The running maximum after the one block of keys. -/
def maxima (s : FVec Ideal S4x128x256x1024 .f32) : FVec Ideal S4x128x256x1 .f32 := maximumf lowest (column (tops s))

/-- The factor of what was accumulated before that block: nothing. -/
def before (s : FVec Ideal S4x128x256x1024 .f32) : FVec Ideal S4x128x256x1 .f32 :=
  Host.exp (subf (broadcastInDim S4x128x256x1 ![] bcast_S_S4x128x256x1 (constant S_ .f32 0xFF800000#32)) (maxima s))

/-- The weights of the scores. -/
def weights (s : FVec Ideal S4x128x256x1024 .f32) : FVec Ideal S4x128x256x1024 .f32 :=
  Host.exp (subf s (broadcastInDim S4x128x256x1024 ![0, 1, 2, 3] bcast_S4x128x256x1_S4x128x256x1024_0_1_2_3 (maxima s)))

/-- The running sum of the weights. -/
def sums (s : FVec Ideal S4x128x256x1024 .f32) : FVec Ideal S4x128x256x1 .f32 :=
  addf (mulf (broadcastInDim S4x128x256x1 ![] bcast_S_S4x128x256x1 (constant S_ .f32 0x00000000#32)) (before s))
    (broadcastInDim S4x128x256x1 ![0, 1, 2] bcast_S4x128x256_S4x128x256x1_0_1_2
      (Host.reduceAdd (weights s) (constant S_ .f32 0x00000000#32) reducesTo_S4x128x256x1024_S4x128x256_d3 h_S_))

/-- The running weighted sum of the values. -/
def weighted (s : FVec Ideal S4x128x256x1024 .f32) (v : FVec Ideal S4x1024x128x128 .f32) : FVec Ideal S4x256x128x128 .f32 :=
  addf (mulf (broadcastInDim S4x256x128x128 ![] bcast_S_S4x256x128x128 (constant S_ .f32 0x00000000#32))
      (broadcastInDim S4x256x128x128 ![0, 1, 2, 3] bcast_S4x256x128x1_S4x256x128x128_0_1_2_3
        (transpose S4x256x128x1 [0, 2, 1, 3] (before s) transposes_S4x128x256x1_S4x256x128x1_0_2_1_3)))
    (transpose S4x256x128x128 [0, 3, 1, 2]
      (Host.dotGeneral dot_S4x1024x128x128_S4x128x256x1024_S4x128x128x256_1_3_3_2_02_01 none v (weights s))
      transposes_S4x128x128x256_S4x256x128x128_0_3_1_2)

/-- The attention output, heads side by side. -/
def attention (s : FVec Ideal S4x128x256x1024 .f32) (v : FVec Ideal S4x1024x128x128 .f32) : FVec Ideal S4x256x16384 .f32 :=
  shapeCast _ (Host.divf (weighted s v) (broadcastInDim S4x256x128x128 ![0, 1, 2, 3] bcast_S4x256x128x1_S4x256x128x128_0_1_2_3
    (transpose S4x256x128x1 [0, 2, 1, 3] (sums s) transposes_S4x128x256x1_S4x256x128x1_0_2_1_3))) shapeCasts_S4x256x128x128_S4x256x16384

/-- The output projection. -/
def projected (a : FVec Ideal S4x256x16384 .f32) (w : FVec Ideal S16384x1024 .f32) : FVec Ideal S1024x1024 .f32 :=
  shapeCast _ (Host.dotGeneral dot_S4x256x16384_S16384x1024_S4x256x1024_2_0_01_1_n_n none a w) shapeCasts_S4x256x1024_S1024x1024

/-- The reference is its stages, one after the other. -/
theorem result_eq (m : (ℓ : Loc nD τ sig) → Buf (Elt Ideal) ℓ) (c : Dev nD) :
    Value.res_main_v35 m c
      = projected (attention (scores (queries (m ((c.tc : Thread nD τ).loc main_arg0)) (m ((c.tc : Thread nD τ).loc main_arg1)))
          (repeated (m ((c.tc : Thread nD τ).loc main_arg2)))) (repeated (m ((c.tc : Thread nD τ).loc main_arg3))))
        (m ((c.tc : Thread nD τ).loc main_arg4)) := rfl

/-! ## Each stage at an index -/

theorem queries_apply (x : FVec Ideal S4x256x1024 .f32) (w : FVec Ideal S1024x16384 .f32) (b : Fin 4) (s : Fin 256) (h d : Fin 128) :
    queries x w (ix4 b s h d) = ∑ k : Fin 1024, x (ix3 b s k) * w (ix2 k (⟨h.val * 128 + d.val, by omega⟩ : Fin 16384)) := by
  pointwise [queries]

theorem repeated_apply (k : FVec Ideal S4x1024x32x128 .f32) (b : Fin 4) (t : Fin 1024) (h d : Fin 128) :
    repeated k (ix4 b t h d) = k (ix4 b t (⟨h.val / 4, by omega⟩ : Fin 32) d) := by
  pointwise [repeated]

theorem scores_apply (q : FVec Ideal S4x256x128x128 .f32) (k : FVec Ideal S4x1024x128x128 .f32) (b : Fin 4) (h : Fin 128) (s : Fin 256) (t : Fin 1024) :
    scores q k (ix4 b h s t) = (∑ d : Fin 128, q (ix4 b s h d) * k (ix4 b t h d)) * scale := by
  pointwise [scores]
  rfl

theorem negInf_eq : Ideal.ofBits .f32 0xFF800000#32 = ⊥ := by simp [Ideal.ofBits, Ideal.ieee]

theorem tops_apply (f : FVec Ideal S4x128x256x1024 .f32) (b : Fin 4) (h : Fin 128) (s : Fin 256) :
    tops f (ix3 b h s) = rowMax fun t => f (ix4 b h s t) := by
  unfold tops
  pointwise
  rfl

theorem lowest_apply (i : S4x128x256x1.Idx) : lowest i = (⊥ : EReal) := by
  refine Eq.trans ?_ negInf_eq
  pointwise [lowest]

theorem column_apply (u : FVec Ideal S4x128x256 .f32) (b : Fin 4) (h : Fin 128) (s : Fin 256) :
    column u (ix4 b h s (0 : Fin 1)) = u (ix3 b h s) := by
  pointwise [column]

theorem max_lowest (u : FVec Ideal S4x128x256x1 .f32) (i : S4x128x256x1.Idx) : maximumf lowest u i = u i := by
  rw [maximumf_apply, Ideal.maximumf_eq_max, lowest_apply]
  exact bot_sup_eq _

theorem maxima_apply (f : FVec Ideal S4x128x256x1024 .f32) (b : Fin 4) (h : Fin 128) (s : Fin 256) :
    maxima f (ix4 b h s (0 : Fin 1)) = rowMax fun t => f (ix4 b h s t) :=
  (max_lowest (column (tops f)) _).trans ((column_apply (tops f) b h s).trans (tops_apply f b h s))

theorem weights_apply (f : FVec Ideal S4x128x256x1024 .f32) (b : Fin 4) (h : Fin 128) (s : Fin 256) (t : Fin 1024) :
    weights f (ix4 b h s t) = weight (fun t => f (ix4 b h s t)) t := by
  pointwise [weights]
  rw [maxima_apply]
  rfl

theorem sums_apply (f : FVec Ideal S4x128x256x1024 .f32) (b : Fin 4) (h : Fin 128) (s : Fin 256) :
    sums f (ix4 b h s (0 : Fin 1)) = ∑ t, weight (fun t => f (ix4 b h s t)) t := by
  pointwise [sums]
  rw [zero_mul, zero_add]
  exact Finset.sum_congr rfl fun t _ => weights_apply f b h s t

theorem weighted_apply (f : FVec Ideal S4x128x256x1024 .f32) (v : FVec Ideal S4x1024x128x128 .f32) (b : Fin 4) (s : Fin 256) (h d : Fin 128) :
    weighted f v (ix4 b s h d) = ∑ t, weight (fun t => f (ix4 b h s t)) t * v (ix4 b t h d) := by
  pointwise [weighted]
  rw [zero_mul, zero_add]
  exact Finset.sum_congr rfl fun t _ => (mul_comm _ _).trans (congrArg (fun a : EReal => a * v (ix4 b t h d)) (weights_apply f b h s t))

theorem attention_apply (f : FVec Ideal S4x128x256x1024 .f32) (v : FVec Ideal S4x1024x128x128 .f32) (b : Fin 4) (s : Fin 256) (n : Fin 16384) :
    attention f v (ix3 b s n) = attend (fun t => f (ix4 b (⟨n.val / 128, by omega⟩ : Fin 128) s t))
      (fun t => v (ix4 b t (⟨n.val / 128, by omega⟩ : Fin 128) (⟨n.val % 128, by omega⟩ : Fin 128))) := by
  pointwise [attention]
  rw [weighted_apply, sums_apply]
  rfl

theorem projected_apply (a : FVec Ideal S4x256x16384 .f32) (w : FVec Ideal S16384x1024 .f32) (r n : Fin 1024) :
    projected a w (ix2 r n) = ∑ k : Fin 16384, a (ix3 (⟨r.val / 256, by omega⟩ : Fin 4) (⟨r.val % 256, by omega⟩ : Fin 256) k) * w (ix2 k n) := by
  pointwise [projected]

end Cert.RefProof

end
-- ==== Proof.Sched.lean ====
/-
# `Sched`: the protocol

Each device has seventeen cells: its barrier semaphore, and a send and a receive semaphore per transfer. All have one
round. The barrier's round has four duties, duty `k` paid by the partner of transfers `k` and `7 - k`, who hands over
the parts of its receive buffers those two transfers land in. A receive cell's duty hands the landed rows, a send cell's
the part of the send buffer back.
-/
module

public import proofs.«01_k».proof.Proof.Values

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's, the protocol's, and the local transfers' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER; infer_instance

variable (m : (ℓ : Loc nD τ sig) → Buf (Elt F) ℓ)

/-! ## The parts of the send and receive buffers, and the cells -/

/-- The rows of transfer `j` in the send and receive buffers. -/
abbrev slotRect (j : Fin 8) : Rect S960x1024 := Rect.unit (s := S960x1024) ![ofs j, 0] ![rws j, 1024] (rows_inb (ofs_inb j))

abbrev sendM (j : Fin 8) := (Memref.whole bSend).slice (slotRect j) (fun _ => rfl)
abbrev rsM (j : Fin 8) := (Memref.whole bRs).slice (slotRect j) (fun _ => rfl)
abbrev agM (j : Fin 8) := (Memref.whole bAg).slice (slotRect j) (fun _ => rfl)

/-- Device `c` holds transfer `j`'s rows of its send buffer, of its reduce-scatter receive buffer, of its all-gather
    receive buffer. -/
def sendPts (j : Fin 8) (c : Dev nD) (f : Buf (Elt F) ((sendM j).view.loc (c : Thread nD τ))) : sProp 𝕄 :=
  (sendM j).view.loc (c : Thread nD τ) ↦[(sendM j).view.set]{fullShare} f
def rsPts (j : Fin 8) (c : Dev nD) (f : Buf (Elt F) ((rsM j).view.loc (c : Thread nD τ))) : sProp 𝕄 :=
  (rsM j).view.loc (c : Thread nD τ) ↦[(rsM j).view.set]{fullShare} f
def agPts (j : Fin 8) (c : Dev nD) (f : Buf (Elt F) ((agM j).view.loc (c : Thread nD τ))) : sProp 𝕄 :=
  (agM j).view.loc (c : Thread nD τ) ↦[(agM j).view.set]{fullShare} f

instance sendPts_storable (j : Fin 8) (c : Dev nD) (f) : BI.Storable (upEmb : UEmb _ 𝕄) (sendPts (F := F) j c f) := by unfold sendPts; infer_instance
instance rsPts_storable (j : Fin 8) (c : Dev nD) (f) : BI.Storable (upEmb : UEmb _ 𝕄) (rsPts (F := F) j c f) := by unfold rsPts; infer_instance
instance agPts_storable (j : Fin 8) (c : Dev nD) (f) : BI.Storable (upEmb : UEmb _ 𝕄) (agPts (F := F) j c f) := by unfold agPts; infer_instance

/-- The runtime's barrier semaphore, -/
abbrev barS : Sem sig := (SemArray.scalar (sig.barrier 0 rfl) : Sems sig S_).sem
/-- and the send and receive semaphores of transfer `j`. -/
abbrev sendS (j : Fin 8) : DmaSem sig := ⟨4 + j.val, by have := j.isLt; show 4 + j.val < 24; omega⟩
abbrev recvS (j : Fin 8) : DmaSem sig := ⟨12 + j.val, by have := j.isLt; show 12 + j.val < 24; omega⟩

abbrev barCell (c : Dev nD) : GSem nD τ sig := ((c : Thread nD τ), .reg barS)
abbrev sendCell (j : Fin 8) (c : Dev nD) : GSem nD τ sig := ((c : Thread nD τ), .dma (sendS j))
abbrev recvCell (j : Fin 8) (c : Dev nD) : GSem nD τ sig := ((c : Thread nD τ), .dma (recvS j))

/-- The transfer a DMA semaphore's number belongs to. -/
def slotOf (q : DmaSem sig) : Fin 8 := ⟨(q.val + 4) % 8, Nat.mod_lt _ (by decide)⟩
theorem slotOf_send : ∀ j : Fin 8, slotOf (sendS j) = j := by decide
theorem slotOf_recv : ∀ j : Fin 8, slotOf (recvS j) = j := by decide

/-- What transfer `j` credits a cell. -/
abbrev N (j : Fin 8) : ℕ := (sendM j).view.dmaCredit
theorem N_pos (j : Fin 8) : 0 < N j := View.dmaCredit_pos _ (by fin_cases j <;> decide)
theorem N_rs (j : Fin 8) : (rsM j).view.dmaCredit = N j := rfl
theorem N_ag (j : Fin 8) : (agM j).view.dmaCredit = N j := rfl

/-- The partner index of duty `k` of a barrier cell, as a transfer of the reduce-scatter, -/
abbrev up (k : Fin 4) : Fin 8 := ⟨k.val, by omega⟩
/-- and as a transfer of the all-gather. -/
abbrev dn (k : Fin 4) : Fin 8 := ⟨7 - k.val, by omega⟩
theorem peer_dn : ∀ (k : Fin 4) (c : Dev nD), peer (dn k) c = peer (up k) c := by decide +kernel

/-! ## Payloads -/

/-- What duty `k` of `c`'s barrier cell hands `c`: the rows of its partner's receive buffers that transfers `k` and
    `7 - k` land in. -/
def barPay (k : Fin 4) (c : Dev nD) : sProp 𝕄 :=
  iprop((∃ f, rsPts (up k) (peer (up k) c) f) ∗ (∃ f, agPts (dn k) (peer (up k) c) f))
/-- What a send cell hands back: the rows sent from. -/
def sendPay (j : Fin 8) (c : Dev nD) : sProp 𝕄 := iprop(∃ f, sendPts j c f)
/-- What a receive cell hands: the rows received, holding what the partner sent. -/
def recvPay (j : Fin 8) (c : Dev nD) : sProp 𝕄 :=
  if j.val < 4 then iprop(∃ f : Buf (Elt F) ((rsM j).view.loc (c : Thread nD τ)), ⌜rd (R := 960) f (ofs j) (rws j) (ofs_inb j) = got m j c⌝ ∗ rsPts j c f)
  else iprop(∃ f : Buf (Elt F) ((agM j).view.loc (c : Thread nD τ)), ⌜rd (R := 960) f (ofs j) (rws j) (ofs_inb j) = got m j c⌝ ∗ agPts j c f)

instance barPay_storable (k : Fin 4) (c : Dev nD) : BI.Storable (upEmb : UEmb _ 𝕄) (barPay (F := F) k c) := by unfold barPay; infer_instance
instance sendPay_storable (j : Fin 8) (c : Dev nD) : BI.Storable (upEmb : UEmb _ 𝕄) (sendPay (F := F) j c) := by unfold sendPay; infer_instance
instance recvPay_storable (j : Fin 8) (c : Dev nD) : BI.Storable (upEmb : UEmb _ 𝕄) (recvPay m j c) := by
  unfold recvPay; split <;> infer_instance

/-! ## The schedule -/

abbrev IsBar (g : GSem nD τ sig) : Prop := g.1.2 = .tc ∧ g.2 = .reg barS
/-- A send or receive semaphore. -/
def isX : SemLoc sig → Bool
  | .reg _ => false
  | .dma q => decide (4 ≤ q.val) && decide (q.val < 20)
abbrev IsXfer (g : GSem nD τ sig) : Prop := g.1.2 = .tc ∧ isX g.2 = true

/-- What a cell's unit or instalment is. -/
def amt : SemLoc sig → ℕ
  | .reg _ => 1
  | .dma q => N (slotOf q)

def pay (c : Dev nD) (k : Fin 4) : SemLoc sig → sProp 𝕄
  | .reg _ => barPay k c
  | .dma q => if q.val < 12 then sendPay (slotOf q) c else recvPay m (slotOf q) c

/-- One round, round 0: a barrier cell has four duties of one unit each, a send or receive cell one duty of its
    transfer's credit. -/
def Rd : Rounds.Schedule (GSem nD τ sig) (Fin 4) 𝕄 where
  duties g r := if r = 0 ∧ IsBar g then Finset.univ else if r = 0 ∧ IsXfer g then {0} else ∅
  unitless _ := False
  amount g _ _ := amt g.2
  payload g _ k := pay m g.1.1 k g.2
  amount_pos g _ _ _ := by
    rcases g with ⟨t, sm | sm⟩
    · exact Nat.one_pos
    · exact N_pos _

instance Rd_payload_storable (g : GSem nD τ sig) (r : ℕ) (d : Fin 4) :
    BI.Storable (upEmb : UEmb _ 𝕄) ((Rd (F := F) m).payload g r d) := by
  show BI.Storable upEmb (pay m g.1.1 d g.2)
  rcases g with ⟨t, sm | sm⟩
  · exact barPay_storable _ _
  · show BI.Storable upEmb (if sm.val < 12 then sendPay (slotOf sm) t.1 else recvPay m (slotOf sm) t.1)
    split
    · exact sendPay_storable _ _
    · exact recvPay_storable m _ _

section Tables
variable (c : Dev nD) (j : Fin 8) (k : Fin 4)

theorem isX_send : ∀ j : Fin 8, isX (.dma (sendS j)) = true := by decide
theorem isX_recv : ∀ j : Fin 8, isX (.dma (recvS j)) = true := by decide

theorem duties_def (g : GSem nD τ sig) (r : ℕ) : (Rd m).duties g r
    = if r = 0 ∧ IsBar g then (Finset.univ : Finset (Fin 4)) else if r = 0 ∧ IsXfer g then {0} else ∅ := rfl
theorem duties_bar : (Rd m).duties (barCell c) 0 = Finset.univ := by
  rw [duties_def, if_pos ⟨rfl, rfl, rfl⟩]
theorem duties_xfer (q : DmaSem sig) (hq : isX (.dma q) = true) : (Rd m).duties ((c : Thread nD τ), .dma q) 0 = {0} := by
  rw [duties_def, if_neg (fun h => by have := h.2.2; simp at this), if_pos ⟨rfl, rfl, hq⟩]
theorem duties_send : (Rd m).duties (sendCell j c) 0 = {0} := duties_xfer m c _ (isX_send j)
theorem duties_recv : (Rd m).duties (recvCell j c) 0 = {0} := duties_xfer m c _ (isX_recv j)
theorem duties_later (g : GSem nD τ sig) : ∀ r, 1 ≤ r → (Rd m).duties g r = ∅ := fun r hr => by
  rw [duties_def, if_neg fun h => by omega, if_neg fun h => by omega]

theorem amount_bar : (Rd m).amount (barCell c) 0 k = 1 := rfl
theorem amount_send : (Rd m).amount (sendCell j c) 0 k = N j := congrArg N (slotOf_send j)
theorem amount_recv : (Rd m).amount (recvCell j c) 0 k = N j := congrArg N (slotOf_recv j)

theorem expect_bar : (Rd m).expect (barCell c) 0 = 4 := by
  unfold Schedule.expect Schedule.amountOf
  rw [duties_bar, Finset.sum_congr rfl fun d _ => amount_bar m c d, Finset.sum_const, Finset.card_univ, Fintype.card_fin, smul_eq_mul]
theorem expect_send : (Rd m).expect (sendCell j c) 0 = N j := by
  unfold Schedule.expect Schedule.amountOf; rw [duties_send, Finset.sum_singleton, amount_send]
theorem expect_recv : (Rd m).expect (recvCell j c) 0 = N j := by
  unfold Schedule.expect Schedule.amountOf; rw [duties_recv, Finset.sum_singleton, amount_recv]

theorem payload_bar : (Rd m).payload (barCell c) 0 k = barPay k c := rfl
theorem payload_send : (Rd m).payload (sendCell j c) 0 k = sendPay j c := by
  show (if (sendS j).val < 12 then sendPay (slotOf (sendS j)) c else recvPay m (slotOf (sendS j)) c) = _
  rw [slotOf_send, if_pos (by show 4 + j.val < 12; omega)]
theorem payload_recv : (Rd m).payload (recvCell j c) 0 k = recvPay m j c := by
  show (if (recvS j).val < 12 then sendPay (slotOf (recvS j)) c else recvPay m (slotOf (recvS j)) c) = _
  rw [slotOf_recv, if_neg (by show ¬ 12 + j.val < 12; omega)]

theorem rest_bar : bigSep ((Rd m).duties (barCell c) 0 \ ∅) (fun d => (Rd m).payload (barCell c) 0 d)
    = iprop(barPay 0 c ∗ barPay 1 c ∗ barPay 2 c ∗ barPay 3 c) := by
  rw [Finset.sdiff_empty, duties_bar, bigSep_univ_eq_bigSepL [0, 1, 2, 3] (by decide) (by decide)]
  rfl
theorem rest_send : bigSep ((Rd m).duties (sendCell j c) 0 \ ∅) (fun d => (Rd m).payload (sendCell j c) 0 d) = sendPay j c := by
  rw [Finset.sdiff_empty, duties_send, bigSep_singleton, payload_send]
theorem rest_recv : bigSep ((Rd m).duties (recvCell j c) 0 \ ∅) (fun d => (Rd m).payload (recvCell j c) 0 d) = recvPay m j c := by
  rw [Finset.sdiff_empty, duties_recv, bigSep_singleton, payload_recv]

end Tables

/-! ## What each device owes; the levels -/

/-- What device `c` owes before transfer `j` (`8 - n`): the credits of the transfers from `j` on, its own transfer last. -/
def OR (c : Dev nD) : ℕ → CellTallies nD τ sig Unit
  | 0 => 0
  | n + 1 => OR c n + (if h : n < 8 then tallyAt (recvCell ⟨7 - n, by omega⟩ (peer ⟨7 - n, by omega⟩ c)) () (N ⟨7 - n, by omega⟩) else 0)
/-- What it owes before the barrier signals from `4 - n` on. -/
def OB (c : Dev nD) : ℕ → CellTallies nD τ sig Unit
  | 0 => OR c 8
  | n + 1 => OB c n + (if h : n < 4 then tallyAt (barCell (peer ⟨3 - n, by omega⟩ c)) () 1 else 0)
abbrev O₀ (c : Dev nD) : CellTallies nD τ sig Unit := OB c 4

theorem OR_succ (c : Dev nD) (j : Fin 8) : OR c (8 - j.val) = OR c (7 - j.val) + tallyAt (recvCell j (peer j c)) () (N j) := by
  have e : 8 - j.val = (7 - j.val) + 1 := by omega
  rw [e, OR, dif_pos (by omega)]
  have : (⟨7 - (7 - j.val), by omega⟩ : Fin 8) = j := Fin.ext (by show 7 - (7 - j.val) = j.val; omega)
  rw [this]
theorem OB_succ (c : Dev nD) (k : Fin 4) : OB c (4 - k.val) = OB c (3 - k.val) + tallyAt (barCell (peer (up k) c)) () 1 := by
  have e : 4 - k.val = (3 - k.val) + 1 := by omega
  rw [e, OB, dif_pos (by omega)]
  have : (⟨3 - (3 - k.val), by omega⟩ : Fin 8) = up k := Fin.ext (by show 3 - (3 - k.val) = k.val; omega)
  rw [this]

/-- A cell owed before transfer `8 - n` is the receive cell of a transfer from there on. -/
theorem OR_pos (c : Dev nD) : ∀ (n : ℕ), n ≤ 8 → ∀ (g : GSem nD τ sig) (u : Unit), 0 < OR c n g u →
    ∃ j : Fin 8, 8 - n ≤ j.val ∧ g = recvCell j (peer j c) := by
  intro n
  induction n with
  | zero => intro _ g u h; exact absurd h (Nat.lt_irrefl 0)
  | succ n ih =>
    intro hn g u h
    rw [OR, dif_pos (by omega), Pi.add_apply, Finsupp.add_apply, tallyAt_apply] at h
    by_cases hg : g = recvCell ⟨7 - n, by omega⟩ (peer ⟨7 - n, by omega⟩ c) ∧ u = ()
    · exact ⟨⟨7 - n, by omega⟩, by show 8 - (n + 1) ≤ 7 - n; omega, hg.1⟩
    · rw [if_neg hg, Nat.add_zero] at h
      obtain ⟨j, hj, e⟩ := ih (by omega) g u h
      exact ⟨j, by omega, e⟩
theorem OB_pos (c : Dev nD) : ∀ (n : ℕ), n ≤ 4 → ∀ (g : GSem nD τ sig) (u : Unit), 0 < OB c n g u →
    (∃ j : Fin 8, g = recvCell j (peer j c)) ∨ ∃ d : Dev nD, g = barCell d := by
  intro n
  induction n with
  | zero => intro _ g u h; obtain ⟨j, -, e⟩ := OR_pos c 8 (le_refl 8) g u h; exact .inl ⟨j, e⟩
  | succ n ih =>
    intro hn g u h
    rw [OB, dif_pos (by omega), Pi.add_apply, Finsupp.add_apply, tallyAt_apply] at h
    by_cases hg : g = barCell (peer ⟨3 - n, by omega⟩ c) ∧ u = ()
    · exact .inr ⟨_, hg.1⟩
    · rw [if_neg hg, Nat.add_zero] at h
      exact ih (by omega) g u h

def L (g : GSem nD τ sig) : Finset Unit := if g.1.2 = .tc then {()} else ∅
/-- The barrier at level 1, transfer `j`'s receive cell at `2 + j`, everything else at 0. -/
def lvS : SemLoc sig → ℕ
  | .reg _ => 1
  | .dma q => if 12 ≤ q.val ∧ q.val < 20 then q.val - 10 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (j : Fin 8) (c : Dev nD) : lv (recvCell j c) () = 2 + j.val := by
  show (if 12 ≤ 12 + j.val ∧ 12 + j.val < 20 then 12 + j.val - 10 else 0) = _
  rw [if_pos (by omega)]; omega

/-- A device may wait at a semaphore lower than every receive cell it owes. -/
theorem mayWait_of (c : Dev nD) (sm : SemLoc sig) (n : ℕ) (hn : n ≤ 8) (h : lvS sm < 2 + (8 - n)) :
    (levAts L lv : sProp 𝕄) ⊢ MayWait (c : Thread nD τ) sm () (OR c n) :=
  MayOwe.of_cut (L := L) (lev := lv) (lvS sm) (fun p hp => by rw [Finset.mem_singleton.mp hp, L_tc]; exact Finset.mem_singleton_self _)
    (fun g u hg => by obtain ⟨j, -, e⟩ := OR_pos c n hn g u hg; rw [e, L_tc]; exact Finset.mem_singleton_self _)
    (fun p hp => by rw [Finset.mem_singleton.mp hp]; exact le_refl _)
    (fun g u hg => by obtain ⟨j, hj, e⟩ := OR_pos c n hn g u hg; rw [e, lv_recv]; omega)

/-- A device may wait at a staging semaphore, owing everything or nothing. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos c 4 (le_refl 4) g u hg with ⟨j, e⟩ | ⟨d, e⟩ <;> rw [e, L_tc] <;> exact Finset.mem_singleton_self _)
      (fun p hp => by rw [Finset.mem_singleton.mp hp]; exact le_of_eq hq)
      (fun g u hg => by
        rcases OB_pos c 4 (le_refl 4) g u hg with ⟨j, e⟩ | ⟨d, e⟩
        · rw [e, lv_recv]; omega
        · rw [e]; exact Nat.one_pos)
  · rw [MayWait_zero]; iintro -; iempintro

end Cert.KProof

end
-- ==== Proof.Steps.lean ====
/-
# `Steps`: one lemma per kind of step the kernel takes

The barrier's signals and wait, the transfers and the waits for them, and the loads and stores of the buffers, each with
what the device holds before and after.
-/
module

public import proofs.«01_k».proof.Proof.Sched

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The invariants and marks, and what a device holds of each transfer -/

/-- A device's cells: the barrier, the send cells, the receive cells. -/
abbrev CI : Type := Unit ⊕ (Fin 8 ⊕ Fin 8)
def kcell : Dev nD × CI → GSem nD τ sig
  | (c, .inl _) => barCell c
  | (c, .inr (.inl j)) => sendCell j c
  | (c, .inr (.inr j)) => recvCell j c

/-- Every cell's invariant, that each is at round 0, and the levels. -/
def PF (K : Dev nD × CI → ℕ) : sProp 𝕄 :=
  iprop(levAts L lv ∗ bigSep Finset.univ fun p => iprop(cellInv ER (Rd m) (K p) (kcell p) ∗ reached ER (kcell p) 0))

instance PF_persistent (K : Dev nD × CI → ℕ) : BI.Persistent (PF m K) := by unfold PF; infer_instance

theorem PF_lev (K : Dev nD × CI → ℕ) : PF m K ⊢ levAts L lv := by unfold PF; iintro ⟨H, -⟩; iexact H
theorem PF_cell (K : Dev nD × CI → ℕ) (p : Dev nD × CI) : PF m K ⊢ iprop(cellInv ER (Rd m) (K p) (kcell p) ∗ reached ER (kcell p) 0) := by
  unfold PF
  iintro ⟨-, H⟩
  iapply (show (bigSep Finset.univ fun p => (iprop(cellInv ER (Rd m) (K p) (kcell p) ∗ reached ER (kcell p) 0) : sProp 𝕄))
    ⊢ iprop(cellInv ER (Rd m) (K p) (kcell p) ∗ reached ER (kcell p) 0) from
      BI.bigSep_elim (Φ := fun p => (iprop(cellInv ER (Rd m) (K p) (kcell p) ∗ reached ER (kcell p) 0) : sProp 𝕄)) (Finset.mem_univ p))
  iexact H

/-- What a device pays transfer `j` with; -/
def toks (j : Fin 8) (c : Dev nD) : sProp 𝕄 := iprop(dutyTok ER (sendCell j c) 0 0 ∗ dutyTok ER (recvCell j (peer j c)) 0 0)
/-- what it waits for its arrival with; -/
def rpos (j : Fin 8) (c : Dev nD) : sProp 𝕄 := iprop(atPos ER (recvCell j c) 0 ∅ 0 ∗ cred (tallyAt (recvCell j c) () (N j)))
/-- its position at the send cell, and the credit of a transfer issued. -/
def spos (j : Fin 8) (c : Dev nD) : sProp 𝕄 := atPos ER (sendCell j c) 0 ∅ 0
def sent? (j : Fin 8) (c : Dev nD) : sProp 𝕄 := cred (tallyAt (sendCell j c) () (N j))

/-- What device `c` owes with the transfers from `8 - n` on outstanding. -/
def Owe (c : Dev nD) (n : ℕ) : sProp 𝕄 := iprop(∃ W, owes (c : Thread nD τ) (OR c n) W)
def OweB (c : Dev nD) (n : ℕ) : sProp 𝕄 := iprop(∃ W, owes (c : Thread nD τ) (OB c n) W)

section Steps
variable (K : Dev nD × CI → ℕ) (c : Dev nD)

/-- The signal to the partner of transfers `k` and `7 - k`, handing it the rows they land in. -/
theorem step_signal (k : Fin 4) (n : Dev nD) (hn : n = peer (up k) c) {α : Type} {Q : α → sProp 𝕄} {kk : PUnit → Prog (TpuEff nD τ sig (Elt F) Λ₀ .tc) α} :
    iprop(PF m K ∗ OweB c (4 - k.val) ∗ dutyTok ER (barCell (peer (up k) c)) 0 k ∗ (∃ f, rsPts (up k) c f) ∗ (∃ f, agPts (dn k) c f))
      ⊢ iprop((OweB c (3 - k.val) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS 1) kk) Q) := by
  subst hn
  unfold OweB
  iintro ⟨#HP, ⟨%W, HO⟩, Htok, Hrs, Hag⟩ Hk
  ihave #HC := (PF_cell m K (peer (up k) c, .inl ())) $$ HP
  icases HC with ⟨HI, HR⟩
  iapply (Rounds.wp_signal 𝒱₀ ER (Rd m) (c : Thread nD τ) none (dst := (peer (up k) c : Thread nD τ)) (κ := K (peer (up k) c, .inl ()))
      (d := k) (by rw [duties_bar]; exact Finset.mem_univ _) (amount_bar m (peer (up k) c) k) () (OB c (3 - k.val)) (OB_succ c k)) $$ [HO Htok Hrs Hag]
  · isplitr; · iexact HI
    isplitl [HO]; · iexact HO
    isplitl [Htok]; · iexact Htok
    isplitl [Hrs Hag]
    · rw [payload_bar]; unfold barPay; rw [peer_peer]
      isplitl [Hrs] <;> iassumption
    iexact HR
  iintro HO
  iapply Hk
  iexists W; iexact HO

/-- The barrier wait: the rows of the partners' receive buffers, and the barrier cell closed. -/
theorem step_bar {α : Type} {Q : α → sProp 𝕄} {kk : PUnit → Prog (TpuEff nD τ sig (Elt F) Λ₀ .tc) α} :
    iprop(PF m K ∗ OweB c 0 ∗ cred (tallyAt (barCell c) () 4) ∗ atPos ER (barCell c) 0 ∅ 0)
      ⊢ iprop((iprop(Owe c 8 ∗ semVal (barCell c) 0 ∗ barPay 0 c ∗ barPay 1 c ∗ barPay 2 c ∗ barPay 3 c)
              -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 4) kk) Q) := by
  unfold OweB Owe
  iintro ⟨#HP, ⟨%W, HO⟩, Hc, Hat⟩ Hk
  ihave #HC := (PF_cell m K (c, .inl ())) $$ HP
  icases HC with ⟨HI, -⟩
  iapply (Rounds.wp_wait_rest_token 𝒱₀ ER (Rd m) (c : Thread nD τ) none (κ := K (c, .inl ()))
      (wpE_semWait_eq 𝒱₀ (c : Thread nD τ) none Set.univ) (Set.mem_univ _) () (O := OR c 8) (W := W) (R := 0) (m := 0) (T := ∅)
      (by rw [expect_bar])) $$ [Hc HO Hat]
  · isplitr; · iexact HI
    isplitl [Hc]; · iexact Hc
    isplitl [HO]; · iexact HO
    isplitr
    · iapply (mayWait_of (F := F) c (.reg barS) 8 (le_refl 8) (by decide)); iapply (PF_lev m K); iexact HP
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iexact HI
    iexact Hat
  iapply Hk
  isplitl [HO]; · iexists _; iexact HO
  isplitl [Hz]; · iexact Hz
  iexact Hp

theorem rs_landed (j : Fin 8) {d : Dev nD} (fd : Buf (Elt F) ((rsM j).view.loc (d : Thread nD τ))) (w : (slotRect j).shape.Idx → F .bf16) :
    rd (R := 960) ((rsM j).view.write (Elt F) fd w Finset.univ) (ofs j) (rws j) (ofs_inb j) = w := by
  rw [← window_rows _ (ofs_inb j) (rows_inb (ofs_inb j))]
  exact (rsM j).view.read_write_univ fd w
theorem ag_landed (j : Fin 8) {d : Dev nD} (fd : Buf (Elt F) ((agM j).view.loc (d : Thread nD τ))) (w : (slotRect j).shape.Idx → F .bf16) :
    rd (R := 960) ((agM j).view.write (Elt F) fd w Finset.univ) (ofs j) (rws j) (ofs_inb j) = w := by
  rw [← window_rows _ (ofs_inb j) (rows_inb (ofs_inb j))]
  exact (agM j).view.read_write_univ fd w
theorem send_read (j : Fin 8) {d : Dev nD} (f : Buf (Elt F) ((sendM j).view.loc (d : Thread nD τ))) :
    (sendM j).view.read (Elt F) f = rd (R := 960) f (ofs j) (rws j) (ofs_inb j) := by
  rw [← window_rows _ (ofs_inb j) (rows_inb (ofs_inb j))]; rfl

/-- A reduce-scatter transfer issued. -/
theorem step_send_rs (j : Fin 8) (hj : j.val < 4) (n : Dev nD) (hn : n = peer j c)
    {hsc : (rsM j : Memref sig (Dev.tc n : Thread nD τ).2.kind .vmem _ .bf16).view.ref.isScScratch = false}
    {hsrc : (sendM j).view.WordExact} {hdst : (rsM j).view.WordExact}
    {hsem : DmaTarget.Typed .vmem (.dma (recvS j)) (.remote (Dev.tc n : Thread nD τ) (rsM j : Memref sig .tc .vmem _ .bf16) (.dma (sendS j)) hsc)}
    {α : Type} {Q : α → sProp 𝕄} {kk : PUnit → Prog (TpuEff nD τ sig (Elt F) Λ₀ .tc) α} (f : Buf (Elt F) ((sendM j).view.loc (c : Thread nD τ)))
    (hf : rd (R := 960) f (ofs j) (rws j) (ofs_inb j) = sent m j c) :
    iprop(PF m K ∗ sendPts j c f ∗ (∃ g, rsPts j (peer j c) g) ∗ toks j c ∗ Owe c (8 - j.val))
      ⊢ iprop((iprop(sent? j c ∗ Owe c (7 - j.val)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendM j) (.remote (Dev.tc n : Thread nD τ) (rsM j) (.dma (sendS j)) hsc) (.dma (recvS j)) hsrc hdst hsem) kk) Q) := by
  subst hn
  unfold Owe toks sent? sendPts rsPts
  iintro ⟨#HP, Hs, ⟨%g, Hd⟩, ⟨Ht1, Ht2⟩, ⟨%W, HO⟩⟩ Hk
  ihave #HC := (PF_cell m K (c, .inr (.inl j))) $$ HP
  ihave #HD := (PF_cell m K (peer j c, .inr (.inr j))) $$ HP
  icases HC with ⟨HI1, HR1⟩
  icases HD with ⟨HI2, HR2⟩
  iapply (Rounds.wp_send_pointsTo 𝒱₀ ER (Rd m) (c : Thread nD τ) none (κ₁ := K (c, .inr (.inl j))) (κ₂ := K (peer j c, .inr (.inr j)))
    (r₁ := 0) (r₂ := 0) (d₁ := 0) (d₂ := 0) (fd := g)
    (by rw [duties_send]; exact Finset.mem_singleton_self _) (by rw [duties_recv]; exact Finset.mem_singleton_self _)
    () () (N j) rfl (amount_send m c j 0) (amount_recv m (peer j c) j 0) (OR c (7 - j.val)) (OR_succ c j) (W := W)
    (by rw [payload_send]; unfold sendPay sendPts; iintro H; iexists f; iexact H)
    (by
      rw [payload_recv]; unfold recvPay rsPts; rw [if_pos hj]
      iintro H
      iexists _
      isplitr
      · ipureintro
        exact (rs_landed j g _).trans ((send_read j f).trans (hf.trans (by unfold got; rw [peer_peer])))
      iexact H)) $$ [Hs Hd Ht1 Ht2 HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- An all-gather transfer issued. -/
theorem step_send_ag (j : Fin 8) (hj : 4 ≤ j.val) (n : Dev nD) (hn : n = peer j c)
    {hsc : (agM j : Memref sig (Dev.tc n : Thread nD τ).2.kind .vmem _ .bf16).view.ref.isScScratch = false}
    {hsrc : (sendM j).view.WordExact} {hdst : (agM j).view.WordExact}
    {hsem : DmaTarget.Typed .vmem (.dma (recvS j)) (.remote (Dev.tc n : Thread nD τ) (agM j : Memref sig .tc .vmem _ .bf16) (.dma (sendS j)) hsc)}
    {α : Type} {Q : α → sProp 𝕄} {kk : PUnit → Prog (TpuEff nD τ sig (Elt F) Λ₀ .tc) α} (f : Buf (Elt F) ((sendM j).view.loc (c : Thread nD τ)))
    (hf : rd (R := 960) f (ofs j) (rws j) (ofs_inb j) = sent m j c) :
    iprop(PF m K ∗ sendPts j c f ∗ (∃ g, agPts j (peer j c) g) ∗ toks j c ∗ Owe c (8 - j.val))
      ⊢ iprop((iprop(sent? j c ∗ Owe c (7 - j.val)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendM j) (.remote (Dev.tc n : Thread nD τ) (agM j) (.dma (sendS j)) hsc) (.dma (recvS j)) hsrc hdst hsem) kk) Q) := by
  subst hn
  unfold Owe toks sent? sendPts agPts
  iintro ⟨#HP, Hs, ⟨%g, Hd⟩, ⟨Ht1, Ht2⟩, ⟨%W, HO⟩⟩ Hk
  ihave #HC := (PF_cell m K (c, .inr (.inl j))) $$ HP
  ihave #HD := (PF_cell m K (peer j c, .inr (.inr j))) $$ HP
  icases HC with ⟨HI1, HR1⟩
  icases HD with ⟨HI2, HR2⟩
  iapply (Rounds.wp_send_pointsTo 𝒱₀ ER (Rd m) (c : Thread nD τ) none (κ₁ := K (c, .inr (.inl j))) (κ₂ := K (peer j c, .inr (.inr j)))
    (r₁ := 0) (r₂ := 0) (d₁ := 0) (d₂ := 0) (fd := g)
    (by rw [duties_send]; exact Finset.mem_singleton_self _) (by rw [duties_recv]; exact Finset.mem_singleton_self _)
    () () (N j) rfl (amount_send m c j 0) (amount_recv m (peer j c) j 0) (OR c (7 - j.val)) (OR_succ c j) (W := W)
    (by rw [payload_send]; unfold sendPay sendPts; iintro H; iexists f; iexact H)
    (by
      rw [payload_recv]; unfold recvPay agPts; rw [if_neg (Nat.not_lt.mpr hj)]
      iintro H
      iexists _
      isplitr
      · ipureintro
        exact (ag_landed j g _).trans ((send_read j f).trans (hf.trans (by unfold got; rw [peer_peer])))
      iexact H)) $$ [Hs Hd Ht1 Ht2 HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- The wait for the partner's transfer `j`, at any point past issuing one's own: the rows received, the cell closed. -/
theorem step_recv (j : Fin 8) (n : ℕ) (hn : n ≤ 7 - j.val) {s : Shape} {e : EltTy} {sp sp' : Space} {κ' : Kind}
    {srcw : Memref sig .tc sp' s e} {dstw : Memref sig κ' sp (slotRect j).shape .bf16} {hsrc : srcw.view.WordExact} {hdst : dstw.view.WordExact}
    (hN : dstw.view.dmaCredit = N j)
    {α : Type} {Q : α → sProp 𝕄} {kk : PUnit → Prog (TpuEff nD τ sig (Elt F) Λ₀ .tc) α} :
    iprop(PF m K ∗ rpos j c ∗ Owe c n)
      ⊢ iprop((iprop(recvPay m j c ∗ semVal (recvCell j c) 0 ∗ Owe c n) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS j) srcw dstw hsrc hdst) kk) Q) := by
  unfold Owe rpos
  iintro ⟨#HP, ⟨Hat, Hc⟩, ⟨%W, HO⟩⟩ Hk
  ihave #HC := (PF_cell m K (c, .inr (.inr j))) $$ HP
  icases HC with ⟨HI, -⟩
  iapply (Rounds.wp_wait_rest_token 𝒱₀ ER (Rd m) (c : Thread nD τ) none (κ := K (c, .inr (.inr j))) (k' := dstw.view.dmaCredit)
      (wpE_waitDma2_eq 𝒱₀ (c : Thread nD τ) none Set.univ) (Set.mem_univ _) () (O := OR c n) (W := W) (R := 0) (m := 0) (T := ∅)
      (by rw [Nat.zero_add, hN]; exact (expect_recv m c j).symm)) $$ [Hc HO Hat]
  · isplitr; · iexact HI
    isplitl [Hc]; · rw [hN]; iexact Hc
    isplitl [HO]; · iexact HO
    isplitr
    · iapply (mayWait_of (F := F) c (.dma (recvS j)) n (by omega) (by have := lv_recv j c; have h : lvS (.dma (recvS j)) = 2 + j.val := this; have := j.isLt; omega))
      iapply (PF_lev m K); iexact HP
    iexact Hat
  iintro ⟨HO, Hat, -, Hpay⟩
  ihave Hp := (Entails.of_eq (rest_recv m c j)) $$ Hpay
  imod (Rounds.cell_close ER (Rd m) (Set.mem_univ (K (c, .inr (.inr j)))) (fun h => h) (R := 0 + 1) (duties_later m (recvCell j c))) $$ [Hat] with Hz
  · isplitr; · iexact HI
    iexact Hat
  iapply Hk
  isplitl [Hp]; · iexact Hp
  isplitl [Hz]; · iexact Hz
  iexists _; iexact HO

/-- The wait for one's own transfer `j` to have left: the rows sent from back, the cell closed. -/
theorem step_sent (j : Fin 8) (n : ℕ) (hn : n ≤ 8) {s : Shape} {e : EltTy} {sp sp' : Space} {κ' : Kind}
    {srcw : Memref sig .tc sp' s e} {dstw : Memref sig κ' sp (slotRect j).shape .bf16} {hsrc : srcw.view.WordExact} {hdst : dstw.view.WordExact}
    (hN : dstw.view.dmaCredit = N j)
    {α : Type} {Q : α → sProp 𝕄} {kk : PUnit → Prog (TpuEff nD τ sig (Elt F) Λ₀ .tc) α} :
    iprop(PF m K ∗ spos j c ∗ sent? j c ∗ Owe c n)
      ⊢ iprop((iprop(sendPay j c ∗ semVal (sendCell j c) 0 ∗ Owe c n) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS j) srcw dstw hsrc hdst) kk) Q) := by
  unfold Owe spos sent?
  iintro ⟨#HP, Hat, Hc, ⟨%W, HO⟩⟩ Hk
  ihave #HC := (PF_cell m K (c, .inr (.inl j))) $$ HP
  icases HC with ⟨HI, -⟩
  iapply (Rounds.wp_wait_rest_token 𝒱₀ ER (Rd m) (c : Thread nD τ) none (κ := K (c, .inr (.inl j))) (k' := dstw.view.dmaCredit)
      (wpE_waitDma2_eq 𝒱₀ (c : Thread nD τ) none Set.univ) (Set.mem_univ _) () (O := OR c n) (W := W) (R := 0) (m := 0) (T := ∅)
      (by rw [Nat.zero_add, hN]; exact (expect_send m c j).symm)) $$ [Hc HO Hat]
  · isplitr; · iexact HI
    isplitl [Hc]; · rw [hN]; iexact Hc
    isplitl [HO]; · iexact HO
    isplitr
    · iapply (mayWait_of (F := F) c (.dma (sendS j)) n hn
        (by
          have h : lvS (.dma (sendS j)) = 0 := if_neg (by show ¬ (12 ≤ 4 + j.val ∧ 4 + j.val < 20); omega)
          omega))
      iapply (PF_lev m K); iexact HP
    iexact Hat
  iintro ⟨HO, Hat, -, Hpay⟩
  ihave Hp := (Entails.of_eq (rest_send m c j)) $$ Hpay
  imod (Rounds.cell_close ER (Rd m) (Set.mem_univ (K (c, .inr (.inl j)))) (fun h => h) (R := 0 + 1) (duties_later m (sendCell j c))) $$ [Hat] with Hz
  · isplitr; · iexact HI
    iexact Hat
  iapply Hk
  isplitl [Hp]; · iexact Hp
  isplitl [Hz]; · iexact Hz
  iexists _; iexact HO

end Steps

end Cert.KProof

end
-- ==== Proof.Bufs.lean ====
/-
# `Bufs`: the buffers cut into the transfers' rows, and the loads and stores of rows
-/
module

public import proofs.«01_k».proof.Proof.Steps

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cutting a buffer in four -/

/-- A buffer held whole is held part by part, -/
theorem split4 (ℓ : Loc nD τ sig) (S : Fin 4 → Finset (Idx ℓ)) (hd : ∀ k k', k ≠ k' → Disjoint (S k) (S k'))
    (hc : (Finset.univ : Finset (Fin 4)).biUnion S = Finset.univ) (f : Buf (Elt F) ℓ) :
    (ℓ ↦{fullShare} f : sProp 𝕄)
      ⊢ iprop((ℓ ↦[S 0]{fullShare} f) ∗ (ℓ ↦[S 1]{fullShare} f) ∗ (ℓ ↦[S 2]{fullShare} f) ∗ (ℓ ↦[S 3]{fullShare} f)) := by
  rw [← hc, pointsTo_biUnion _ _ (fun t _ t' _ h => hd t t' h), bigSep_univ_eq_bigSepL [0, 1, 2, 3] (by decide) (by decide)]
  exact BIBase.Entails.rfl

/-- and back, the parts holding anything. -/
theorem join4 (ℓ : Loc nD τ sig) (S : Fin 4 → Finset (Idx ℓ)) (hd : ∀ k k', k ≠ k' → Disjoint (S k) (S k'))
    (hc : (Finset.univ : Finset (Fin 4)).biUnion S = Finset.univ) (f0 f1 f2 f3 : Buf (Elt F) ℓ) :
    (iprop((ℓ ↦[S 0]{fullShare} f0) ∗ (ℓ ↦[S 1]{fullShare} f1) ∗ (ℓ ↦[S 2]{fullShare} f2) ∗ (ℓ ↦[S 3]{fullShare} f3)) : sProp 𝕄)
      ⊢ iprop(∃ f, ℓ ↦{fullShare} f) := by
  have h := pointsTo_biUnion_join (Val := Elt F) (Ix := Unit) (Name := ℕ) (U := UU) (Lvl := ℕ) (q := fullShare) (Finset.univ : Finset (Fin 4)) S ![f0, f1, f2, f3] f0 (fun t _ t' _ h => hd t t' h)
  rw [bigSep_univ_eq_bigSepL [0, 1, 2, 3] (by decide) (by decide), hc] at h
  refine BIBase.Entails.trans (BIBase.Entails.trans (BIBase.Entails.of_eq rfl) h) ?_
  iintro ⟨%g, -, H⟩
  iexists g; iexact H

/-- The elements of the rows of transfer `j`. -/
def slotSet (j : Fin 8) : Finset (S960x1024 : Shape).Idx := (slotRect j).set

theorem mem_slotSet (j : Fin 8) (i : (S960x1024 : Shape).Idx) : i ∈ slotSet j ↔ ofs j ≤ (i 0).val ∧ (i 0).val < ofs j + rws j := by
  unfold slotSet
  rw [Rect.mem_set_unit]
  constructor
  · exact fun h => h 0
  · intro h a
    fin_cases a
    · exact h
    · exact ⟨Nat.zero_le _, by show (i 1).val < 0 + 1024; rw [Nat.zero_add]; exact (i 1).isLt⟩

/-- The all-gather's transfers, in order. -/
abbrev lo (k : Fin 4) : Fin 8 := ⟨4 + k.val, by omega⟩

theorem slots_disjoint (s : Fin 4 → Fin 8)
    (h : ∀ k k', k ≠ k' → ofs (s k) + rws (s k) ≤ ofs (s k') ∨ ofs (s k') + rws (s k') ≤ ofs (s k)) :
    ∀ k k', k ≠ k' → Disjoint (slotSet (s k)) (slotSet (s k')) := fun k k' hk =>
  Finset.disjoint_left.mpr fun i h1 h2 => by
    have a := (mem_slotSet _ _).mp h1
    have b := (mem_slotSet _ _).mp h2
    rcases h k k' hk with h | h <;> omega
theorem slots_cover (s : Fin 4 → Fin 8) (h : ∀ r : Fin 960, ∃ k, ofs (s k) ≤ r.val ∧ r.val < ofs (s k) + rws (s k)) :
    (Finset.univ : Finset (Fin 4)).biUnion (fun k => slotSet (s k)) = Finset.univ := by
  ext i
  simp only [Finset.mem_biUnion, Finset.mem_univ, true_and, iff_true]
  obtain ⟨k, hk⟩ := h (i 0)
  exact ⟨k, (mem_slotSet _ _).mpr hk⟩
theorem up_disjoint : ∀ k k', k ≠ k' → ofs (up k) + rws (up k) ≤ ofs (up k') ∨ ofs (up k') + rws (up k') ≤ ofs (up k) := by decide
theorem lo_disjoint : ∀ k k', k ≠ k' → ofs (lo k) + rws (lo k) ≤ ofs (lo k') ∨ ofs (lo k') + rws (lo k') ≤ ofs (lo k) := by decide
theorem up_cover : ∀ r : Fin 960, ∃ k, ofs (up k) ≤ r.val ∧ r.val < ofs (up k) + rws (up k) := by decide +kernel
theorem lo_cover : ∀ r : Fin 960, ∃ k, ofs (lo k) ≤ r.val ∧ r.val < ofs (lo k) + rws (lo k) := by decide +kernel

section Slots
variable (c : Dev nD)

theorem sendPts_eq (j : Fin 8) (f : Buf (Elt F) ((c : Thread nD τ).loc bSend)) :
    (sendPts j c f : sProp 𝕄) = ((c : Thread nD τ).loc bSend ↦[slotSet j]{fullShare} f) := by
  unfold sendPts; rw [show (sendM j).view.set = slotSet j from View.set_slice_whole _ _]
theorem rsPts_eq (j : Fin 8) (f : Buf (Elt F) ((c : Thread nD τ).loc bRs)) :
    (rsPts j c f : sProp 𝕄) = ((c : Thread nD τ).loc bRs ↦[slotSet j]{fullShare} f) := by
  unfold rsPts; rw [show (rsM j).view.set = slotSet j from View.set_slice_whole _ _]
theorem agPts_eq (j : Fin 8) (f : Buf (Elt F) ((c : Thread nD τ).loc bAg)) :
    (agPts j c f : sProp 𝕄) = ((c : Thread nD τ).loc bAg ↦[slotSet j]{fullShare} f) := by
  unfold agPts; rw [show (agM j).view.set = slotSet j from View.set_slice_whole _ _]

/-- The send buffer cut for the reduce-scatter, -/
theorem split_send_rs (f : Buf (Elt F) ((c : Thread nD τ).loc bSend)) : ((c : Thread nD τ).loc bSend ↦{fullShare} f : sProp 𝕄)
    ⊢ iprop(sendPts 0 c f ∗ sendPts 1 c f ∗ sendPts 2 c f ∗ sendPts 3 c f) := by
  rw [sendPts_eq, sendPts_eq, sendPts_eq, sendPts_eq]
  exact split4 ((c : Thread nD τ).loc bSend) (fun k => slotSet (up k)) (slots_disjoint up up_disjoint) (slots_cover up up_cover) f
/-- put together again, -/
theorem join_send_rs' (f0 f1 f2 f3 : Buf (Elt F) ((c : Thread nD τ).loc bSend)) :
    (iprop(sendPts 0 c f0 ∗ sendPts 1 c f1 ∗ sendPts 2 c f2 ∗ sendPts 3 c f3) : sProp 𝕄)
    ⊢ iprop(∃ f, (c : Thread nD τ).loc bSend ↦{fullShare} f) := by
  rw [sendPts_eq, sendPts_eq, sendPts_eq, sendPts_eq]
  exact join4 ((c : Thread nD τ).loc bSend) (fun k => slotSet (up k)) (slots_disjoint up up_disjoint) (slots_cover up up_cover) f0 f1 f2 f3
theorem join_send_rs : (iprop(sendPay 0 c ∗ sendPay 1 c ∗ sendPay 2 c ∗ sendPay 3 c) : sProp 𝕄)
    ⊢ iprop(∃ f, (c : Thread nD τ).loc bSend ↦{fullShare} f) := by
  unfold sendPay
  iintro ⟨⟨%f0, H0⟩, ⟨%f1, H1⟩, ⟨%f2, H2⟩, ⟨%f3, H3⟩⟩
  iapply (join_send_rs' c f0 f1 f2 f3)
  isplitl [H0]; · iexact H0
  isplitl [H1]; · iexact H1
  isplitl [H2] <;> iassumption
/-- cut for the all-gather, -/
theorem split_send_ag (f : Buf (Elt F) ((c : Thread nD τ).loc bSend)) : ((c : Thread nD τ).loc bSend ↦{fullShare} f : sProp 𝕄)
    ⊢ iprop(sendPts 4 c f ∗ sendPts 5 c f ∗ sendPts 6 c f ∗ sendPts 7 c f) := by
  rw [sendPts_eq, sendPts_eq, sendPts_eq, sendPts_eq]
  exact split4 ((c : Thread nD τ).loc bSend) (fun k => slotSet (lo k)) (slots_disjoint lo lo_disjoint) (slots_cover lo lo_cover) f
/-- and put together again. -/
theorem join_send_ag' (f0 f1 f2 f3 : Buf (Elt F) ((c : Thread nD τ).loc bSend)) :
    (iprop(sendPts 4 c f0 ∗ sendPts 5 c f1 ∗ sendPts 6 c f2 ∗ sendPts 7 c f3) : sProp 𝕄)
    ⊢ iprop(∃ f, (c : Thread nD τ).loc bSend ↦{fullShare} f) := by
  rw [sendPts_eq, sendPts_eq, sendPts_eq, sendPts_eq]
  exact join4 ((c : Thread nD τ).loc bSend) (fun k => slotSet (lo k)) (slots_disjoint lo lo_disjoint) (slots_cover lo lo_cover) f0 f1 f2 f3
theorem join_send_ag : (iprop(sendPay 4 c ∗ sendPay 5 c ∗ sendPay 6 c ∗ sendPay 7 c) : sProp 𝕄)
    ⊢ iprop(∃ f, (c : Thread nD τ).loc bSend ↦{fullShare} f) := by
  unfold sendPay
  iintro ⟨⟨%f0, H0⟩, ⟨%f1, H1⟩, ⟨%f2, H2⟩, ⟨%f3, H3⟩⟩
  iapply (join_send_ag' c f0 f1 f2 f3)
  isplitl [H0]; · iexact H0
  isplitl [H1]; · iexact H1
  isplitl [H2] <;> iassumption
/-- The reduce-scatter's receive buffer, -/
theorem split_rs (f : Buf (Elt F) ((c : Thread nD τ).loc bRs)) : ((c : Thread nD τ).loc bRs ↦{fullShare} f : sProp 𝕄)
    ⊢ iprop(rsPts 0 c f ∗ rsPts 1 c f ∗ rsPts 2 c f ∗ rsPts 3 c f) := by
  rw [rsPts_eq, rsPts_eq, rsPts_eq, rsPts_eq]
  exact split4 ((c : Thread nD τ).loc bRs) (fun k => slotSet (up k)) (slots_disjoint up up_disjoint) (slots_cover up up_cover) f
theorem join_rs (f0 f1 f2 f3 : Buf (Elt F) ((c : Thread nD τ).loc bRs)) :
    (iprop(rsPts 0 c f0 ∗ rsPts 1 c f1 ∗ rsPts 2 c f2 ∗ rsPts 3 c f3) : sProp 𝕄)
    ⊢ iprop(∃ f, (c : Thread nD τ).loc bRs ↦{fullShare} f) := by
  rw [rsPts_eq, rsPts_eq, rsPts_eq, rsPts_eq]
  exact join4 ((c : Thread nD τ).loc bRs) (fun k => slotSet (up k)) (slots_disjoint up up_disjoint) (slots_cover up up_cover) f0 f1 f2 f3
/-- and the all-gather's. -/
theorem split_ag (f : Buf (Elt F) ((c : Thread nD τ).loc bAg)) : ((c : Thread nD τ).loc bAg ↦{fullShare} f : sProp 𝕄)
    ⊢ iprop(agPts 4 c f ∗ agPts 5 c f ∗ agPts 6 c f ∗ agPts 7 c f) := by
  rw [agPts_eq, agPts_eq, agPts_eq, agPts_eq]
  exact split4 ((c : Thread nD τ).loc bAg) (fun k => slotSet (lo k)) (slots_disjoint lo lo_disjoint) (slots_cover lo lo_cover) f
theorem join_ag (f0 f1 f2 f3 : Buf (Elt F) ((c : Thread nD τ).loc bAg)) :
    (iprop(agPts 4 c f0 ∗ agPts 5 c f1 ∗ agPts 6 c f2 ∗ agPts 7 c f3) : sProp 𝕄)
    ⊢ iprop(∃ f, (c : Thread nD τ).loc bAg ↦{fullShare} f) := by
  rw [agPts_eq, agPts_eq, agPts_eq, agPts_eq]
  exact join4 ((c : Thread nD τ).loc bAg) (fun k => slotSet (lo k)) (slots_disjoint lo lo_disjoint) (slots_cover lo lo_cover) f0 f1 f2 f3

end Slots

/-! ## Loads and stores -/

section Access
variable (c : Dev nD)

/-- A load of rows of the partial product, -/
theorem ld_part {off : Fin 2 → ℕ} (n o : ℕ) (ho : o + n ≤ 1024) (h : off = ![o, 0]) {inb} {hl}
    {α : Type} {Q : α → sProp 𝕄} {kk} (f : Buf (Elt F) ((c : Thread nD τ).loc bPart)) :
    ((c : Thread nD τ).loc bPart ↦{fullShare} f)
      ⊢ iprop((((c : Thread nD τ).loc bPart ↦{fullShare} f) -∗ wp frame (wpE (defs₀ (F := F)) 𝒱₀ (c : Thread nD τ) none) Set.univ (kk (rd (R := 1024) f o n ho)) Q)
          -∗ wp frame (wpE (defs₀ (F := F)) 𝒱₀ (c : Thread nD τ) none) Set.univ
              (.op (.load (Memref.whole bPart) (Rect.unit (s := S1024x1024) off ![n, 1024] inb).toLoadRect hl) kk : Prog (TpuEff nD τ sig (Elt F) Λ₀ .tc) α) Q) := by
  have e := (readAt_whole (Val := Elt F) bPart f inb h (rows_inb ho)).trans (window_rows f ho (rows_inb ho))
  rw [← e]
  exact wp_load 𝒱₀ (c : Thread nD τ) none Set.univ (m := Memref.whole bPart) (Finset.subset_univ _)

/-- a store of rows of it, -/
theorem st_part {off : Fin 2 → ℕ} (n o : ℕ) (h : off = ![o, 0]) {inb} {w : (⟨2, ![n, 1024]⟩ : Shape).Idx → F .f32} {hx} {hm}
    {α : Type} {Q : α → sProp 𝕄} {kk} (f : Buf (Elt F) ((c : Thread nD τ).loc bPart)) :
    ((c : Thread nD τ).loc bPart ↦{fullShare} f)
      ⊢ iprop((((c : Thread nD τ).loc bPart ↦{fullShare} (pt (R := 1024) f o n w : Buf (Elt F) ((c : Thread nD τ).loc bPart))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (Memref.whole bPart) (Rect.unit (s := S1024x1024) off ![n, 1024] inb) w Finset.univ hx hm) kk : Prog (TpuEff nD τ sig (Elt F) Λ₀ .tc) α) Q) := by
  have e := write_whole (Val := Elt F) bPart f inb w h
  iintro H Hk
  iapply (wp_store 𝒱₀ (c : Thread nD τ) none Set.univ (m := Memref.whole bPart) (r := Rect.unit (s := S1024x1024) off ![n, 1024] inb) (Mk := Finset.univ) (Finset.subset_univ _)) $$ H
  iintro H
  rw [e]
  iapply Hk; iexact H

/-- a load of rows of the result, -/
theorem ld_out {off : Fin 2 → ℕ} (n o : ℕ) (ho : o + n ≤ 1024) (h : off = ![o, 0]) {inb} {hl}
    {α : Type} {Q : α → sProp 𝕄} {kk} (f : Buf (Elt F) ((c : Thread nD τ).loc bOut)) :
    ((c : Thread nD τ).loc bOut ↦{fullShare} f)
      ⊢ iprop((((c : Thread nD τ).loc bOut ↦{fullShare} f) -∗ wp frame (wpE (defs₀ (F := F)) 𝒱₀ (c : Thread nD τ) none) Set.univ (kk (rd (R := 1024) f o n ho)) Q)
          -∗ wp frame (wpE (defs₀ (F := F)) 𝒱₀ (c : Thread nD τ) none) Set.univ
              (.op (.load (Memref.whole bOut) (Rect.unit (s := S1024x1024) off ![n, 1024] inb).toLoadRect hl) kk : Prog (TpuEff nD τ sig (Elt F) Λ₀ .tc) α) Q) := by
  have e := (readAt_whole (Val := Elt F) bOut f inb h (rows_inb ho)).trans (window_rows f ho (rows_inb ho))
  rw [← e]
  exact wp_load 𝒱₀ (c : Thread nD τ) none Set.univ (m := Memref.whole bOut) (Finset.subset_univ _)

/-- a store of rows of it, -/
theorem st_out {off : Fin 2 → ℕ} (n o : ℕ) (h : off = ![o, 0]) {inb} {w : (⟨2, ![n, 1024]⟩ : Shape).Idx → F .f32} {hx} {hm}
    {α : Type} {Q : α → sProp 𝕄} {kk} (f : Buf (Elt F) ((c : Thread nD τ).loc bOut)) :
    ((c : Thread nD τ).loc bOut ↦{fullShare} f)
      ⊢ iprop((((c : Thread nD τ).loc bOut ↦{fullShare} (pt (R := 1024) f o n w : Buf (Elt F) ((c : Thread nD τ).loc bOut))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (Memref.whole bOut) (Rect.unit (s := S1024x1024) off ![n, 1024] inb) w Finset.univ hx hm) kk : Prog (TpuEff nD τ sig (Elt F) Λ₀ .tc) α) Q) := by
  have e := write_whole (Val := Elt F) bOut f inb w h
  iintro H Hk
  iapply (wp_store 𝒱₀ (c : Thread nD τ) none Set.univ (m := Memref.whole bOut) (r := Rect.unit (s := S1024x1024) off ![n, 1024] inb) (Mk := Finset.univ) (Finset.subset_univ _)) $$ H
  iintro H
  rw [e]
  iapply Hk; iexact H

/-- a load of rows of the attention. -/
theorem ld_attn {off : Fin 2 → ℕ} (n o : ℕ) (ho : o + n ≤ 1024) (h : off = ![o, 0]) {inb} {hl}
    {α : Type} {Q : α → sProp 𝕄} {kk} (f : Buf (Elt F) ((c : Thread nD τ).loc bAttn)) :
    ((c : Thread nD τ).loc bAttn ↦{fullShare} f)
      ⊢ iprop((((c : Thread nD τ).loc bAttn ↦{fullShare} f) -∗ wp frame (wpE (defs₀ (F := F)) 𝒱₀ (c : Thread nD τ) none) Set.univ (kk (rd (R := 1024) f o n ho)) Q)
          -∗ wp frame (wpE (defs₀ (F := F)) 𝒱₀ (c : Thread nD τ) none) Set.univ
              (.op (.load (Memref.whole bAttn) (Rect.unit (s := S1024x1024) off ![n, 1024] inb).toLoadRect hl) kk : Prog (TpuEff nD τ sig (Elt F) Λ₀ .tc) α) Q) := by
  have e := (readAt_whole (Val := Elt F) bAttn f inb h (rows_inb ho)).trans (window_rows f ho (rows_inb ho))
  rw [← e]
  exact wp_load 𝒱₀ (c : Thread nD τ) none Set.univ (m := Memref.whole bAttn) (Finset.subset_univ _)

/-- The load before a store into transfer `j`'s rows of the send buffer, -/
theorem ld_send (j : Fin 8) {hl} {α : Type} {Q : α → sProp 𝕄} {kk} (f : Buf (Elt F) ((c : Thread nD τ).loc bSend)) :
    sendPts j c f
      ⊢ iprop((∀ v, sendPts j c f -∗ wp frame (wpE (defs₀ (F := F)) 𝒱₀ (c : Thread nD τ) none) Set.univ (kk v) Q)
          -∗ wp frame (wpE (defs₀ (F := F)) 𝒱₀ (c : Thread nD τ) none) Set.univ
              (.op (.load (Memref.whole bSend) (slotRect j).toLoadRect hl) kk : Prog (TpuEff nD τ sig (Elt F) Λ₀ .tc) α) Q) := by
  unfold sendPts
  iintro H Hk
  iapply (wp_load_rect 𝒱₀ (c : Thread nD τ) none Set.univ (m := Memref.whole bSend) (r := slotRect j) (S := (sendM j).view.set) (Finset.Subset.refl _)) $$ H
  iintro H
  iapply Hk; iexact H

/-- the store, -/
theorem st_send (j : Fin 8) {w : (slotRect j).shape.Idx → F .bf16} {hx} {hm} {α : Type} {Q : α → sProp 𝕄} {kk}
    (f : Buf (Elt F) ((c : Thread nD τ).loc bSend)) :
    sendPts j c f
      ⊢ iprop((∀ f' : Buf (Elt F) ((c : Thread nD τ).loc bSend), ⌜rd (R := 960) f' (ofs j) (rws j) (ofs_inb j) = w⌝ -∗ sendPts j c f' -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (Memref.whole bSend) (slotRect j) w Finset.univ hx hm) kk : Prog (TpuEff nD τ sig (Elt F) Λ₀ .tc) α) Q) := by
  unfold sendPts
  iintro H Hk
  iapply (wp_store 𝒱₀ (c : Thread nD τ) none Set.univ (m := Memref.whole bSend) (r := slotRect j) (Mk := Finset.univ) (S := (sendM j).view.set) (Finset.Subset.refl _)) $$ H
  iintro H
  iapply Hk $$ [] [H]
  · ipureintro
    exact (send_read (d := c) j _).symm.trans ((sendM j).view.read_write_univ f w)
  iexact H

/-- the load of what a reduce-scatter transfer brought, -/
theorem ld_rs (j : Fin 8) (hj : j.val < 4) {hl} {α : Type} {Q : α → sProp 𝕄} {kk} :
    recvPay m j c
      ⊢ iprop(((∃ f, rsPts j c f) -∗ wp frame (wpE (defs₀ (F := F)) 𝒱₀ (c : Thread nD τ) none) Set.univ (kk (got m j c)) Q)
          -∗ wp frame (wpE (defs₀ (F := F)) 𝒱₀ (c : Thread nD τ) none) Set.univ
              (.op (.load (Memref.whole bRs) (slotRect j).toLoadRect hl) kk : Prog (TpuEff nD τ sig (Elt F) Λ₀ .tc) α) Q) := by
  unfold recvPay rsPts; rw [if_pos hj]
  iintro ⟨%f, %hf, H⟩ Hk
  iapply (wp_load_rect 𝒱₀ (c : Thread nD τ) none Set.univ (m := Memref.whole bRs) (r := slotRect j) (S := (rsM j).view.set) (Finset.Subset.refl _)) $$ H
  iintro H
  have e : ((Memref.whole bRs).access (slotRect j)).read (Elt F) f = got m j c :=
    (show _ = rd (R := 960) f (ofs j) (rws j) (ofs_inb j) from by rw [← window_rows _ (ofs_inb j) (rows_inb (ofs_inb j))]; rfl).trans hf
  rw [e]
  iapply Hk; iexists f; iexact H

/-- and of what an all-gather transfer brought. -/
theorem ld_ag (j : Fin 8) (hj : 4 ≤ j.val) {hl} {α : Type} {Q : α → sProp 𝕄} {kk} :
    recvPay m j c
      ⊢ iprop(((∃ f, agPts j c f) -∗ wp frame (wpE (defs₀ (F := F)) 𝒱₀ (c : Thread nD τ) none) Set.univ (kk (got m j c)) Q)
          -∗ wp frame (wpE (defs₀ (F := F)) 𝒱₀ (c : Thread nD τ) none) Set.univ
              (.op (.load (Memref.whole bAg) (slotRect j).toLoadRect hl) kk : Prog (TpuEff nD τ sig (Elt F) Λ₀ .tc) α) Q) := by
  unfold recvPay agPts; rw [if_neg (Nat.not_lt.mpr hj)]
  iintro ⟨%f, %hf, H⟩ Hk
  iapply (wp_load_rect 𝒱₀ (c : Thread nD τ) none Set.univ (m := Memref.whole bAg) (r := slotRect j) (S := (agM j).view.set) (Finset.Subset.refl _)) $$ H
  iintro H
  have e : ((Memref.whole bAg).access (slotRect j)).read (Elt F) f = got m j c :=
    (show _ = rd (R := 960) f (ofs j) (rws j) (ofs_inb j) from by rw [← window_rows _ (ofs_inb j) (rows_inb (ofs_inb j))]; rfl).trans hf
  rw [e]
  iapply Hk; iexists f; iexact H

end Access

end Cert.KProof

end
-- ==== Proof.Phases.lean ====
/-
# `Phases`: the reduce-scatter's and the all-gather's pieces, for any transfer

Each lemma runs a short stretch of the kernel — filling the rows to send, sending, receiving, combining — for transfer
`j`; the kernel's parts are made of these.
-/
module

public import proofs.«01_k».proof.Proof.Bufs

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds between the pieces -/

/-- The partial product's buffer, agreeing with `X k c` on `n` rows from `o` on; -/
def PartOn (k : ℕ) (o n : ℕ) (c : Dev nD) : sProp 𝕄 :=
  iprop(∃ f : Buf (Elt F) ((c : Thread nD τ).loc bPart), ⌜On (R := 1024) f (X m k c) o n⌝ ∗ ((c : Thread nD τ).loc bPart ↦{fullShare} f))
/-- the result's, likewise. -/
def OutOn (k : ℕ) (o n : ℕ) (c : Dev nD) : sProp 𝕄 :=
  iprop(∃ f : Buf (Elt F) ((c : Thread nD τ).loc bOut), ⌜On (R := 1024) f (X m k c) o n⌝ ∗ ((c : Thread nD τ).loc bOut ↦{fullShare} f))
/-- Transfer `j`'s rows of the send buffer, filled. -/
def Filled (j : Fin 8) (c : Dev nD) : sProp 𝕄 :=
  iprop(∃ f : Buf (Elt F) ((sendM j).view.loc (c : Thread nD τ)), ⌜rd (R := 960) f (ofs j) (rws j) (ofs_inb j) = sent m j c⌝ ∗ sendPts j c f)
/-- The rows transfer `j` lands in, on device `d`. -/
def RsAny (j : Fin 8) (d : Dev nD) : sProp 𝕄 := iprop(∃ g, rsPts j d g)
def AgAny (j : Fin 8) (d : Dev nD) : sProp 𝕄 := iprop(∃ g, agPts j d g)

theorem PartOn.mono {k o n o' n' : ℕ} (c : Dev nD) (h1 : o ≤ o') (h2 : o' + n' ≤ o + n) : PartOn m k o n c ⊢ PartOn m k o' n' c := by
  unfold PartOn
  iintro ⟨%f, %hf, H⟩
  iexists f
  isplitr; · ipureintro; exact hf.mono h1 h2
  iexact H

/-- A part of the kernel at the buffers and semaphores it runs on. -/
abbrev onBufs {β : Type 1}
    (p : (arg0 : Memref sig .tc .vmem S4x256x1024 .f32) → arg0.IsWhole → (arg1 : Memref sig .tc .vmem S1024x1024 .f32) → arg1.IsWhole
      → (arg2 : Memref sig .tc .vmem S1024x1024 .f32) → arg2.IsWhole → (arg3 : Memref sig .tc .hbm S4x1024x32x128 .f32) → arg3.IsWhole
      → (arg4 : Memref sig .tc .hbm S4x1024x32x128 .f32) → arg4.IsWhole → (arg5 : Memref sig .tc .vmem S1024x1024 .f32) → arg5.IsWhole
      → (arg6 : Memref sig .tc .vmem S1024x1024 .bf16) → arg6.IsWhole → (arg7 : Memref sig .tc .vmem S1024x1024 .bf16) → arg7.IsWhole
      → (arg8 : Memref sig .tc .vmem S1024x1024 .f32) → arg8.IsWhole → (arg9 : Memref sig .tc .vmem S960x1024 .bf16) → arg9.IsWhole
      → (arg10 : Memref sig .tc .vmem S960x1024 .bf16) → arg10.IsWhole → (arg11 : Memref sig .tc .vmem S960x1024 .bf16) → arg11.IsWhole
      → (arg12 : Memref sig .tc .vmem S2x4x1024x128 .f32) → arg12.IsWhole → (arg13 : Memref sig .tc .vmem S2x4x1024x128 .f32) → arg13.IsWhole
      → DmaSems sig S8 → DmaSems sig S8 → DmaSems sig S4 → β) : β :=
  p (Memref.whole bX) (Memref.isWhole_whole _) (Memref.whole bWq) (Memref.isWhole_whole _) (Memref.whole bWo) (Memref.isWhole_whole _)
    (Memref.whole main_arg2) (Memref.isWhole_whole _) (Memref.whole main_arg3) (Memref.isWhole_whole _) (Memref.whole bOut) (Memref.isWhole_whole _)
    (Memref.whole bQ) (Memref.isWhole_whole _) (Memref.whole bAttn) (Memref.isWhole_whole _) (Memref.whole bPart) (Memref.isWhole_whole _)
    (Memref.whole bSend) (Memref.isWhole_whole _) (Memref.whole bRs) (Memref.isWhole_whole _) (Memref.whole bAg) (Memref.isWhole_whole _)
    (Memref.whole bK) (Memref.isWhole_whole _) (Memref.whole bV) (Memref.isWhole_whole _) cc0_scratch8 cc0_scratch9 cc0_scratch10

section Phases
variable (K : Dev nD × CI → ℕ) (c : Dev nD)

/-- Filling the rows a reduce-scatter transfer sends. -/
theorem rs_fill (j : Fin 8) {o n : ℕ} (h1 : o ≤ sb j c) (h2 : sb j c + rws j ≤ o + n) {off : Fin 2 → ℕ} (ho : off = ![sb j c, 0]) {inb} {hl} {hl'} {hx} {hm}
    {pay : ((⟨2, ![rws j, 1024]⟩ : Shape).Idx → F .f32) → (slotRect j).shape.Idx → F .bf16} (hp : ∀ v, pay v = fun i => tr (v i))
    {α : Type} {Q : α → sProp 𝕄} {kk} :
    iprop(PartOn m j.val o n c ∗ (∃ f, sendPts j c f))
      ⊢ iprop((iprop(PartOn m j.val o n c ∗ Filled m j c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (cs := .vmem) (s := S1024x1024) (e := .f32) (Memref.whole bPart) (Rect.unit (s := S1024x1024) off ![rws j, 1024] inb).toLoadRect hl) fun (v : (⟨2, ![rws j, 1024]⟩ : Shape).Idx → F .f32) =>
                .op (.load (cs := .vmem) (s := S960x1024) (e := .bf16) (Memref.whole bSend) (slotRect j).toLoadRect hl') fun _ =>
                .op (.store (Memref.whole bSend) (slotRect j) (pay v) Finset.univ hx hm) kk : Prog (TpuEff nD τ sig (Elt F) Λ₀ .tc) α) Q) := by
  unfold PartOn Filled
  iintro ⟨⟨%g, %hg, Hp⟩, ⟨%f, Hs⟩⟩ Hk
  iapply (ld_part c (rws j) (sb j c) (sb_inb j c) ho g) $$ Hp; iintro Hp
  iapply (ld_send c j f) $$ Hs; iintro %v Hs
  iapply (st_send c j f) $$ Hs; iintro %f' %hf Hs
  iapply Hk
  isplitl [Hp]
  · iexists g; isplitr; · ipureintro; exact hg
    iexact Hp
  iexists f'
  isplitr
  · ipureintro; rw [hf, hp, (hg.mono h1 h2).rd (sb_inb j c)]; rfl
  iexact Hs

/-- Filling the rows an all-gather transfer sends. -/
theorem ag_fill (j : Fin 8) {off : Fin 2 → ℕ} (ho : off = ![sb j c, 0]) {inb} {hl} {hl'} {hx} {hm}
    {pay : ((⟨2, ![rws j, 1024]⟩ : Shape).Idx → F .f32) → (slotRect j).shape.Idx → F .bf16} (hp : ∀ v, pay v = fun i => tr (v i))
    {α : Type} {Q : α → sProp 𝕄} {kk} :
    iprop(OutOn m j.val (sb j c) (rws j) c ∗ (∃ f, sendPts j c f))
      ⊢ iprop((iprop(OutOn m j.val (sb j c) (rws j) c ∗ Filled m j c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (cs := .vmem) (s := S1024x1024) (e := .f32) (Memref.whole bOut) (Rect.unit (s := S1024x1024) off ![rws j, 1024] inb).toLoadRect hl) fun (v : (⟨2, ![rws j, 1024]⟩ : Shape).Idx → F .f32) =>
                .op (.load (cs := .vmem) (s := S960x1024) (e := .bf16) (Memref.whole bSend) (slotRect j).toLoadRect hl') fun _ =>
                .op (.store (Memref.whole bSend) (slotRect j) (pay v) Finset.univ hx hm) kk : Prog (TpuEff nD τ sig (Elt F) Λ₀ .tc) α) Q) := by
  unfold OutOn Filled
  iintro ⟨⟨%g, %hg, Hp⟩, ⟨%f, Hs⟩⟩ Hk
  iapply (ld_out c (rws j) (sb j c) (sb_inb j c) ho g) $$ Hp; iintro Hp
  iapply (ld_send c j f) $$ Hs; iintro %v Hs
  iapply (st_send c j f) $$ Hs; iintro %f' %hf Hs
  iapply Hk
  isplitl [Hp]
  · iexists g; isplitr; · ipureintro; exact hg
    iexact Hp
  iexists f'
  isplitr
  · ipureintro; rw [hf, hp, hg.rd (sb_inb j c)]; rfl
  iexact Hs

/-- A reduce-scatter transfer's arrival, and the loads of the rows kept and the rows received. -/
theorem rs_wait (j : Fin 8) (hj : j.val < 4) {o n : ℕ} (h1 : o ≤ kb j c) (h2 : kb j c + rws j ≤ o + n) {off : Fin 2 → ℕ} (ho : off = ![kb j c, 0]) {inb} {hl} {hl'}
    {hsrc : (sendM j).view.WordExact} {hdst : (rsM j).view.WordExact} {α : Type} {Q : α → sProp 𝕄}
    {kk : ((⟨2, ![rws j, 1024]⟩ : Shape).Idx → F .f32) → ((slotRect j).shape.Idx → F .bf16) → Prog (TpuEff nD τ sig (Elt F) Λ₀ .tc) α} :
    iprop(PF m K ∗ rpos j c ∗ Owe c (7 - j.val) ∗ PartOn m j.val o n c)
      ⊢ iprop((iprop(Owe c (7 - j.val) ∗ PartOn m j.val o n c ∗ semVal (recvCell j c) 0 ∗ RsAny j c)
              -∗ wp frame (wpE (defs₀ (F := F)) 𝒱₀ (c : Thread nD τ) none) Set.univ (kk (rd (X m j.val c) (kb j c) (rws j) (kb_inb j c)) (got m j c)) Q)
          -∗ wp frame (wpE (defs₀ (F := F)) 𝒱₀ (c : Thread nD τ) none) Set.univ
              (.op (.waitDma2 (recvS j) (sendM j) (rsM j) hsrc hdst) fun _ =>
                .op (.load (cs := .vmem) (s := S1024x1024) (e := .f32) (Memref.whole bPart) (Rect.unit (s := S1024x1024) off ![rws j, 1024] inb).toLoadRect hl) fun a =>
                .op (.load (cs := .vmem) (s := S960x1024) (e := .bf16) (Memref.whole bRs) (slotRect j).toLoadRect hl') fun b => kk a b : Prog (TpuEff nD τ sig (Elt F) Λ₀ .tc) α) Q) := by
  unfold PartOn RsAny
  iintro ⟨#HP, Hr, HO, ⟨%g, %hg, Hp⟩⟩ Hk
  iapply (step_recv m K c j (7 - j.val) (le_refl _) (N_rs j)) $$ [Hr HO]
  · isplitr; · iexact HP
    isplitl [Hr] <;> iassumption
  iintro ⟨Hv, Hz, HO⟩
  iapply (ld_part c (rws j) (kb j c) (kb_inb j c) ho g) $$ Hp; iintro Hp
  iapply (ld_rs m c j hj) $$ Hv; iintro Hv
  rw [(hg.mono h1 h2).rd (kb_inb j c)]
  iapply Hk
  isplitl [HO]; · iexact HO
  isplitl [Hp]
  · iexists g; isplitr; · ipureintro; exact hg
    iexact Hp
  isplitl [Hz] <;> iassumption

/-- The rows kept, with the rows received added, stored. -/
theorem rs_store (j : Fin 8) (hj : j.val < 4) {off : Fin 2 → ℕ} (ho : off = ![kb j c, 0]) {k o n : ℕ} {inb} {hl} {hx} {hm}
    {w : (⟨2, ![rws j, 1024]⟩ : Shape).Idx → F .f32}
    (hw : w = fun i => FloatOps.addf (rd (X m j.val c) (kb j c) (rws j) (kb_inb j c) i) (xt (got m j c i)))
    {α : Type} {Q : α → sProp 𝕄} {kk} :
    PartOn m k o n c
      ⊢ iprop((PartOn m (j.val + 1) (kb j c) (rws j) c -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (cs := .vmem) (s := S1024x1024) (e := .f32) (Memref.whole bPart) (Rect.unit (s := S1024x1024) off ![rws j, 1024] inb).toLoadRect hl) fun _ =>
                .op (.store (Memref.whole bPart) (Rect.unit (s := S1024x1024) off ![rws j, 1024] inb) w Finset.univ hx hm) kk : Prog (TpuEff nD τ sig (Elt F) Λ₀ .tc) α) Q) := by
  unfold PartOn
  iintro ⟨%g, -, Hp⟩ Hk
  iapply (ld_part c (rws j) (kb j c) (kb_inb j c) ho g) $$ Hp; iintro Hp
  iapply (st_part c (rws j) (kb j c) ho g) $$ Hp; iintro Hp
  iapply Hk
  iexists (pt g (kb j c) (rws j) w)
  isplitr
  · ipureintro
    refine On.put (kb_inb j c) (hw.trans ?_)
    rw [got_eq]
    funext i
    unfold rd
    rw [X_rs m j hj]
  iexact Hp

/-- An all-gather transfer: sent, the partner's received and stored. -/
theorem ag_round (j : Fin 8) (hj : 4 ≤ j.val) (n : Dev nD) (hn : n = peer j c) (hd : kb j c + rws j ≤ sb j c ∨ sb j c + rws j ≤ kb j c)
    {off : Fin 2 → ℕ} (ho : off = ![kb j c, 0]) {inb} {hl} {hl'} {hx} {hm}
    {pay : ((slotRect j).shape.Idx → F .bf16) → (⟨2, ![rws j, 1024]⟩ : Shape).Idx → F .f32} (hp : ∀ v, pay v = fun i => xt (v i))
    {hsc : (agM j : Memref sig (Dev.tc n : Thread nD τ).2.kind .vmem _ .bf16).view.ref.isScScratch = false}
    {hsrc : (sendM j).view.WordExact} {hdst : (agM j).view.WordExact}
    {hsem : DmaTarget.Typed .vmem (.dma (recvS j)) (.remote (Dev.tc n : Thread nD τ) (agM j : Memref sig .tc .vmem _ .bf16) (.dma (sendS j)) hsc)}
    {hsrc' : (sendM j).view.WordExact} {hdst' : (agM j).view.WordExact}
    {α : Type} {Q : α → sProp 𝕄} {kk} :
    iprop(PF m K ∗ Filled m j c ∗ AgAny j (peer j c) ∗ toks j c ∗ rpos j c ∗ Owe c (8 - j.val) ∗ OutOn m j.val (sb j c) (rws j) c)
      ⊢ iprop((iprop(Owe c (7 - j.val) ∗ sent? j c ∗ semVal (recvCell j c) 0 ∗ AgAny j c
                ∗ (∃ f : Buf (Elt F) ((c : Thread nD τ).loc bOut), ⌜On (R := 1024) f (X m (j.val + 1) c) (kb j c) (rws j) ∧ On (R := 1024) f (X m (j.val + 1) c) (sb j c) (rws j)⌝
                  ∗ ((c : Thread nD τ).loc bOut ↦{fullShare} f)))
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendM j) (.remote (Dev.tc n : Thread nD τ) (agM j) (.dma (sendS j)) hsc) (.dma (recvS j)) hsrc hdst hsem) fun _ =>
                .op (.waitDma2 (recvS j) (sendM j) (agM j) hsrc' hdst') fun _ =>
                .op (.load (cs := .vmem) (s := S960x1024) (e := .bf16) (Memref.whole bAg) (slotRect j).toLoadRect hl) fun (v : (slotRect j).shape.Idx → F .bf16) =>
                .op (.load (cs := .vmem) (s := S1024x1024) (e := .f32) (Memref.whole bOut) (Rect.unit (s := S1024x1024) off ![rws j, 1024] inb).toLoadRect hl') fun _ =>
                .op (.store (Memref.whole bOut) (Rect.unit (s := S1024x1024) off ![rws j, 1024] inb) (pay v) Finset.univ hx hm) kk
                  : Prog (TpuEff nD τ sig (Elt F) Λ₀ .tc) α) Q) := by
  unfold Filled OutOn AgAny
  iintro ⟨#HP, ⟨%f, %hf, Hs⟩, Hin, Ht, Hr, HO, ⟨%g, %hg, Hp⟩⟩ Hk
  iapply (step_send_ag m K c j hj n hn f hf) $$ [Hs Hin Ht HO]
  · isplitr; · iexact HP
    isplitl [Hs]; · iexact Hs
    isplitl [Hin]; · iexact Hin
    isplitl [Ht] <;> iassumption
  iintro ⟨Hc, HO⟩
  iapply (step_recv m K c j (7 - j.val) (le_refl _) (N_ag j)) $$ [Hr HO]
  · isplitr; · iexact HP
    isplitl [Hr] <;> iassumption
  iintro ⟨Hv, Hz, HO⟩
  iapply (ld_ag m c j hj) $$ Hv; iintro Hv
  iapply (ld_out c (rws j) (kb j c) (kb_inb j c) ho g) $$ Hp; iintro Hp
  rw [hp]
  iapply (st_out c (rws j) (kb j c) ho g) $$ Hp; iintro Hp
  iapply Hk
  isplitl [HO]; · iexact HO
  isplitl [Hc]; · iexact Hc
  isplitl [Hz]; · iexact Hz
  isplitl [Hv]; · iexact Hv
  iexists (pt g (kb j c) (rws j) fun i => xt (got m j c i))
  isplitr
  · ipureintro; exact ag_step m j hj c hg hd
  iexact Hp

/-- The rows gathered so far are the rows the next transfer sends; -/
theorem ag_next (j : Fin 8) (h : 4 ≤ j.val) (h' : j.val < 7) {f : (S1024x1024 : Shape).Idx → F .f32}
    (h1 : On f (X m (j.val + 1) c) (kb j c) (rws j)) (h2 : On f (X m (j.val + 1) c) (sb j c) (rws j)) :
    On f (X m (j.val + 1) c) (sb ⟨j + 1, by omega⟩ c) (rws ⟨j + 1, by omega⟩) := by
  intro i a b
  have hr := rws_join j h h'
  rcases join_sb j h h' c with ⟨e1, e2⟩ | ⟨e1, e2⟩ <;> rw [e1] at a b <;> rw [hr] at b
  · by_cases hh : row i < sb j c + rws j
    · exact h2 i a hh
    · exact h1 i (by omega) (by omega)
  · by_cases hh : row i < kb j c + rws j
    · exact h1 i a hh
    · exact h2 i (by omega) (by omega)
theorem ag_apart (j : Fin 8) (h : 4 ≤ j.val) : kb j c + rws j ≤ sb j c ∨ sb j c + rws j ≤ kb j c := by
  revert c; revert j; decide +kernel
/-- the last leaves every row. -/
theorem ag_last {f : (S1024x1024 : Shape).Idx → F .f32}
    (h1 : On f (X m 8 c) (kb 7 c) 512) (h2 : On f (X m 8 c) (sb 7 c) 512) : f = X m 8 c := by
  funext i
  have : row i < 1024 := (i 0).isLt
  rcases cover7 c with ⟨e1, e2⟩ | ⟨e1, e2⟩ <;> rw [e1] at h2 <;> rw [e2] at h1 <;> by_cases hh : row i < 512
  · exact h2 i (Nat.zero_le _) (by omega)
  · exact h1 i (by omega) (by omega)
  · exact h1 i (Nat.zero_le _) (by omega)
  · exact h2 i (by omega) (by omega)
/-- The rows a reduce-scatter step keeps hold what the next sends and what it keeps. -/
theorem rs_cut (j j' : Fin 8) (h : j'.val < 3) (hj : j.val = j'.val + 1) :
    (kb j' c ≤ sb j c ∧ sb j c + rws j ≤ kb j' c + rws j') ∧ (kb j' c ≤ kb j c ∧ kb j c + rws j ≤ kb j' c + rws j') := by
  have e : (⟨j'.val + 1, by omega⟩ : Fin 8) = j := Fin.ext hj.symm
  have h1 := cut_kb j' h c
  have h2 := rws_cut j' h
  rw [e] at h1 h2
  omega

/-- A reduce-scatter transfer's rows sent. -/
theorem rs_send (j : Fin 8) (hj : j.val < 4) (n : Dev nD) (hn : n = peer j c)
    {hsc : (rsM j : Memref sig (Dev.tc n : Thread nD τ).2.kind .vmem _ .bf16).view.ref.isScScratch = false}
    {hsrc : (sendM j).view.WordExact} {hdst : (rsM j).view.WordExact}
    {hsem : DmaTarget.Typed .vmem (.dma (recvS j)) (.remote (Dev.tc n : Thread nD τ) (rsM j : Memref sig .tc .vmem _ .bf16) (.dma (sendS j)) hsc)}
    {α : Type} {Q : α → sProp 𝕄} {kk : PUnit → Prog (TpuEff nD τ sig (Elt F) Λ₀ .tc) α} :
    iprop(PF m K ∗ Filled m j c ∗ RsAny j (peer j c) ∗ toks j c ∗ Owe c (8 - j.val))
      ⊢ iprop((iprop(sent? j c ∗ Owe c (7 - j.val)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendM j) (.remote (Dev.tc n : Thread nD τ) (rsM j) (.dma (sendS j)) hsc) (.dma (recvS j)) hsrc hdst hsem) kk) Q) := by
  unfold Filled RsAny
  iintro ⟨#HP, ⟨%f, %hf, Hs⟩, Hin, Ht, HO⟩ Hk
  iapply (step_send_rs m K c j hj n hn f hf) $$ [Hs Hin Ht HO]
  · isplitr; · iexact HP
    isplitl [Hs]; · iexact Hs
    isplitl [Hin]; · iexact Hin
    isplitl [Ht] <;> iassumption
  iexact Hk

end Phases

end Cert.KProof

end
-- ==== Proof.Scatter.lean ====
/-
# `Scatter`: the reduce-scatter's parts of the kernel
-/
module

public import proofs.«01_k».proof.Proof.Phases

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Dev nD × CI → ℕ) (c : Dev nD)

theorem rd_at {V : Type} {R n o o' : ℕ} (f : (⟨2, ![R, 1024]⟩ : Shape).Idx → V) (e : o = o') {h} {h'} : rd f o n h = rd f o' n h' := by
  subst e; rfl

/-- What a device sends transfer `j` with: its tokens, the partner's rows, what it will wait with. -/
def ToSend (j : Fin 8) (c : Dev nD) : sProp 𝕄 := iprop(RsAny j (peer j c) ∗ toks j c ∗ (∃ f, sendPts j c f))

/-- Transfer 1's rows filled and sent; its arrival, and the sums of the rows kept. -/
theorem sound9 (v2 v98 v166 v167 v4 : BitVec 32) {Q : _ → sProp 𝕄} :
    iprop(PF m K ∗ ToSend 1 c ∗ rpos 1 c ∗ Owe c 7 ∗ PartOn m 1 (kb 0 c) (rws 0) c)
      ⊢ iprop((∀ b, iprop(Owe c 6 ∗ sent? 1 c ∗ semVal (recvCell 1 c) 0 ∗ RsAny 1 c ∗ PartOn m 1 (kb 0 c) (rws 0) c)
              -∗ Q ⟨k0_pay14 (rd (X m (1 : Fin 8).val c) (kb 1 c) (rws 1) (kb_inb 1 c)) (got m 1 c), b⟩)
          -∗ wp frame (wpE (defs₀ (F := F)) 𝒱₀ (c : Thread nD τ) none) Set.univ (onBufs (k0_part9 (F := F)) c v2 v98 v166 v167 v4) Q) := by
  simp only [onBufs, k0_part9_eq_skeleton]
  unfold k0_part9_skel ToSend
  simp only [Prog.lift, Prog.bind_op, Prog.bind_ret, Prog.pure_eq_ret]
  iintro ⟨#HP, ⟨Hin, Ht, Hs⟩, Hr, HO, Hp⟩ Hk
  have hc := rs_cut c 1 0 (by decide) rfl
  iapply (rs_fill m c 1 hc.1.1 hc.1.2 (off8_eq c) pay13_eq) $$ [Hp Hs]
  · isplitl [Hp]; · iexact Hp
    iexact Hs
  iintro ⟨Hp, Hf⟩
  iapply (rs_send m K c 1 (by decide) _ (dev6_eq c)) $$ [Hf Hin Ht HO]
  · isplitr; · iexact HP
    isplitl [Hf]; · iexact Hf
    isplitl [Hin]; · iexact Hin
    isplitl [Ht]; · iexact Ht
    iexact HO
  iintro ⟨Hc, HO⟩
  iapply (rs_wait m K c 1 (by decide) hc.2.1 hc.2.2 (off9_eq c)) $$ [Hr HO Hp]
  · isplitr; · iexact HP
    isplitl [Hr]; · iexact Hr
    isplitl [HO]; · iexact HO
    iexact Hp
  iintro ⟨HO, Hp, Hz, Hin⟩
  rw [wp_ret]
  imodintro
  iapply Hk
  isplitl [HO]; · iexact HO
  isplitl [Hc]; · iexact Hc
  isplitl [Hz]; · iexact Hz
  isplitl [Hin]; · iexact Hin
  iexact Hp

/-- The sums stored; transfer 2's rows filled and sent. -/
theorem sound10 (v2 v95 v166 v198 : BitVec 32) {Q : _ → sProp 𝕄} :
    iprop(PF m K ∗ ToSend 2 c ∗ Owe c 6 ∗ PartOn m 1 (kb 0 c) (rws 0) c)
      ⊢ iprop((∀ b, iprop(Owe c 5 ∗ sent? 2 c ∗ PartOn m 2 (kb 1 c) (rws 1) c) -∗ Q b)
          -∗ wp frame (wpE (defs₀ (F := F)) 𝒱₀ (c : Thread nD τ) none) Set.univ
              (onBufs (k0_part10 (F := F)) c v2 v95 v166 (k0_pay14 (rd (X m (1 : Fin 8).val c) (kb 1 c) (rws 1) (kb_inb 1 c)) (got m 1 c)) v198) Q) := by
  simp only [onBufs, k0_part10_eq_skeleton]
  unfold k0_part10_skel ToSend
  simp only [Prog.lift, Prog.bind_op, Prog.bind_ret, Prog.pure_eq_ret]
  iintro ⟨#HP, ⟨Hin, Ht, Hs⟩, HO, Hp⟩ Hk
  have hc := rs_cut c 2 1 (by decide) rfl
  iapply (rs_store m c 1 (by decide) (off9_eq c) (pay15_eq _ _)) $$ Hp
  iintro Hp
  iapply (rs_fill m c 2 hc.1.1 hc.1.2 (off10_eq c) pay16_eq) $$ [Hp Hs]
  · isplitl [Hp]; · iexact Hp
    iexact Hs
  iintro ⟨Hp, Hf⟩
  iapply (rs_send m K c 2 (by decide) _ (dev7_eq c)) $$ [Hf Hin Ht HO]
  · isplitr; · iexact HP
    isplitl [Hf]; · iexact Hf
    isplitl [Hin]; · iexact Hin
    isplitl [Ht]; · iexact Ht
    iexact HO
  iintro ⟨Hc, HO⟩
  rw [wp_ret]
  imodintro
  iapply Hk
  isplitl [HO]; · iexact HO
  isplitl [Hc]; · iexact Hc
  iexact Hp

/-- Transfer 2's arrival, its sums stored; transfer 3's rows filled. -/
theorem sound11 (v2 v95 v206 : BitVec 32) {Q : _ → sProp 𝕄} :
    iprop(PF m K ∗ rpos 2 c ∗ Owe c 5 ∗ PartOn m 2 (kb 1 c) (rws 1) c ∗ (∃ f, sendPts 3 c f))
      ⊢ iprop((∀ b, iprop(Owe c 5 ∗ semVal (recvCell 2 c) 0 ∗ RsAny 2 c ∗ PartOn m 3 (kb 2 c) (rws 2) c ∗ Filled m 3 c) -∗ Q b)
          -∗ wp frame (wpE (defs₀ (F := F)) 𝒱₀ (c : Thread nD τ) none) Set.univ (onBufs (k0_part11 (F := F)) c v2 v95 v206) Q) := by
  simp only [onBufs, k0_part11_eq_skeleton]
  unfold k0_part11_skel
  simp only [Prog.lift, Prog.bind_op, Prog.bind_ret, Prog.pure_eq_ret]
  iintro ⟨#HP, Hr, HO, Hp, Hs⟩ Hk
  have hc := rs_cut c 2 1 (by decide) rfl
  iapply (rs_wait m K c 2 (by decide) hc.2.1 hc.2.2 (off11_eq c)) $$ [Hr HO Hp]
  · isplitr; · iexact HP
    isplitl [Hr]; · iexact Hr
    isplitl [HO]; · iexact HO
    iexact Hp
  iintro ⟨HO, Hp, Hz, Hin⟩
  iapply (rs_store m c 2 (by decide) (off11_eq c) (pay17_eq _ _)) $$ Hp
  iintro Hp
  have hc := rs_cut c 3 2 (by decide) rfl
  iapply (rs_fill m c 3 hc.1.1 hc.1.2 (off12_eq c) pay18_eq) $$ [Hp Hs]
  · isplitl [Hp]; · iexact Hp
    iexact Hs
  iintro ⟨Hp, Hf⟩
  rw [wp_ret]
  imodintro
  iapply Hk
  isplitl [HO]; · iexact HO
  isplitl [Hz]; · iexact Hz
  isplitl [Hin]; · iexact Hin
  isplitl [Hp]; · iexact Hp
  iexact Hf

/-- Transfer 3 sent and received, its sums stored and copied to the result. -/
theorem sound12 (v95 v246 v250 : BitVec 32) {Q : _ → sProp 𝕄} :
    iprop(PF m K ∗ Filled m 3 c ∗ RsAny 3 (peer 3 c) ∗ toks 3 c ∗ rpos 3 c ∗ Owe c 5 ∗ PartOn m 3 (kb 2 c) (rws 2) c
        ∗ (∃ f : Buf (Elt F) ((c : Thread nD τ).loc bOut), ((c : Thread nD τ).loc bOut ↦{fullShare} f)))
      ⊢ iprop((∀ r, iprop(Owe c 4 ∗ sent? 3 c ∗ semVal (recvCell 3 c) 0 ∗ RsAny 3 c
              ∗ (∃ f : Buf (Elt F) ((c : Thread nD τ).loc bPart), ((c : Thread nD τ).loc bPart ↦{fullShare} f)) ∗ OutOn m 4 (sb 4 c) (rws 4) c) -∗ Q r)
          -∗ wp frame (wpE (defs₀ (F := F)) 𝒱₀ (c : Thread nD τ) none) Set.univ (onBufs (k0_part12 (F := F)) c v95 v246 v250) Q) := by
  simp only [onBufs, k0_part12_eq_skeleton]
  unfold k0_part12_skel
  simp only [Prog.lift, Prog.bind_op, Prog.bind_ret, Prog.pure_eq_ret]
  iintro ⟨#HP, Hf, Hin, Ht, Hr, HO, Hp, ⟨%g, Ho⟩⟩ Hk
  have hc := rs_cut c 3 2 (by decide) rfl
  iapply (rs_send m K c 3 (by decide) _ (dev8_eq c)) $$ [Hf Hin Ht HO]
  · isplitr; · iexact HP
    isplitl [Hf]; · iexact Hf
    isplitl [Hin]; · iexact Hin
    isplitl [Ht]; · iexact Ht
    iexact HO
  iintro ⟨Hc, HO⟩
  iapply (rs_wait m K c 3 (by decide) hc.2.1 hc.2.2 (off13_eq c)) $$ [Hr HO Hp]
  · isplitr; · iexact HP
    isplitl [Hr]; · iexact Hr
    isplitl [HO]; · iexact HO
    iexact Hp
  iintro ⟨HO, Hp, Hz, Hin⟩
  iapply (rs_store m c 3 (by decide) (off13_eq c) (pay19_eq _ _)) $$ Hp
  unfold PartOn
  iintro ⟨%f, %hf, Hp⟩
  iapply (ld_part c 64 (kb 3 c) (kb_inb 3 c) (off13_eq c) f) $$ Hp; iintro Hp
  iapply (ld_out c 64 (sb 4 c) (sb_inb 4 c) (off14_eq c) g) $$ Ho; iintro Ho
  iapply (st_out c 64 (sb 4 c) (off14_eq c) g) $$ Ho; iintro Ho
  rw [wp_ret]
  imodintro
  iapply Hk
  isplitl [HO]; · iexact HO
  isplitl [Hc]; · iexact Hc
  isplitl [Hz]; · iexact Hz
  isplitl [Hin]; · iexact Hin
  isplitl [Hp]; · iexists f; iexact Hp
  unfold OutOn
  iexists (pt g (sb 4 c) 64 (rd f (kb 3 c) 64 (kb_inb 3 c)))
  isplitr
  · ipureintro
    refine On.put (sb_inb 4 c) ((hf.rd (kb_inb 3 c)).trans ?_)
    exact rd_at _ (sb4_kb3 c).symm
  iexact Ho

end Parts

end Cert.KProof

end
-- ==== Proof.Attention.lean ====
/-
# `Attention`: the kernel's two attention loops and the products with the output weights
-/
module

public import proofs.«01_k».proof.Proof.Scatter

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A block stored into the attention's buffer -/

/-- Inside the block stored, the payload; -/
theorem put_block_in {α : Type} (f : (S1024x1024 : Shape).Idx → α) (b g : ℕ) (w : (S256x512 : Shape).Idx → α) (i : (S1024x1024 : Shape).Idx)
    (h0 : (i 0).val / 256 = b) (h1 : (i 1).val / 512 = g) :
    VecWindow.put f ![256 * b, 512 * g] S256x512.size w i
      = w (ix2 ⟨(i 0).val % 256, Nat.mod_lt _ (by decide)⟩ ⟨(i 1).val % 512, Nat.mod_lt _ (by decide)⟩) := by
  unfold VecWindow.put
  have hh : ∀ a : Fin 2, (![256 * b, 512 * g] : Fin 2 → ℕ) a ≤ (i a).val ∧ (i a).val < (![256 * b, 512 * g] : Fin 2 → ℕ) a + S256x512.size a := by
    intro a; fin_cases a
    · show 256 * b ≤ (i 0).val ∧ (i 0).val < 256 * b + 256; omega
    · show 512 * g ≤ (i 1).val ∧ (i 1).val < 512 * g + 512; omega
  rw [dif_pos hh]
  refine congrArg w (funext fun a => ?_)
  fin_cases a
  · exact Fin.ext (by show (i 0).val - 256 * b = (i 0).val % 256; omega)
  · exact Fin.ext (by show (i 1).val - 512 * g = (i 1).val % 512; omega)

/-- outside it, what was there. -/
theorem put_block_out {α : Type} (f : (S1024x1024 : Shape).Idx → α) (b g : ℕ) (w : (S256x512 : Shape).Idx → α) (i : (S1024x1024 : Shape).Idx)
    (h : ¬ ((i 0).val / 256 = b ∧ (i 1).val / 512 = g)) : VecWindow.put f ![256 * b, 512 * g] S256x512.size w i = f i := by
  unfold VecWindow.put
  refine dif_neg fun hh => h ⟨?_, ?_⟩
  · have := hh 0
    change 256 * b ≤ (i 0).val ∧ (i 0).val < 256 * b + 256 at this; omega
  · have := hh 1
    change 512 * g ≤ (i 1).val ∧ (i 1).val < 512 * g + 512 at this; omega

/-! ## What the loops hold -/

/-- The queries, keys and values, staged. -/
def Qkv (c : Dev nD) : sProp 𝕄 :=
  iprop(((c : Thread nD τ).loc bQ ↦{fullShare} (Qf m c : Buf (Elt F) ((c : Thread nD τ).loc bQ)))
    ∗ ((c : Thread nD τ).loc bK ↦{fullShare} (stg c (kC m c) : Buf (Elt F) ((c : Thread nD τ).loc bK)))
    ∗ ((c : Thread nD τ).loc bV ↦{fullShare} (stg c (vC m c) : Buf (Elt F) ((c : Thread nD τ).loc bV))))

/-- The attention's buffer, with the blocks `S` computed. -/
def AttIs (c : Dev nD) (S : ℕ → ℕ → Prop) : sProp 𝕄 :=
  iprop(∃ f : Buf (Elt F) ((c : Thread nD τ).loc bAttn), ⌜∀ i : (S1024x1024 : Shape).Idx, S ((i 0).val / 256) ((i 1).val / 512) → (f : (S1024x1024 : Shape).Idx → F .bf16) i = Attn m c i⌝
    ∗ ((c : Thread nD τ).loc bAttn ↦{fullShare} f))

theorem AttIs.mono (c : Dev nD) {S S' : ℕ → ℕ → Prop} (h : ∀ b g, g < 2 → S' b g → S b g) : AttIs m c S ⊢ AttIs m c S' := by
  unfold AttIs
  iintro ⟨%f, %hf, H⟩
  iexists f
  isplitr
  · ipureintro
    intro i hi
    refine hf i (h _ _ ?_ hi)
    have := (i 1).isLt
    change (i 1).val < 1024 at this
    omega
  iexact H

/-- The blocks done after `t` trips of the loop over the half that starts at row `o`. -/
def blk (o t : ℕ) (b g : ℕ) : Prop := o / 256 ≤ b ∧ 2 * (b - o / 256) + g < t

section Loop
variable (K : Dev nD × CI → ℕ) (c : Dev nD)

/-- One trip of an attention loop: the block `(b, g)` computed and stored. -/
theorem att_trip (b g : ℕ) (hb : b < 4) (hg : g < 2) {off : Fin 2 → ℕ} {off' : Fin 4 → ℕ} (ho : off = ![256 * b, 512 * g]) (ho' : off' = ![g, b, 0, 0])
    {inb} {inb'} {hl} {hl'} {hl''} {hl₃} {hx} {hm} {S : ℕ → ℕ → Prop}
    {α : Type} {Q : α → sProp 𝕄} {kk} :
    iprop(AttIs m c S ∗ Qkv m c)
      ⊢ iprop((iprop(AttIs m c (fun b' g' => S b' g' ∨ (b' = b ∧ g' = g)) ∗ Qkv m c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (cs := .vmem) (s := S1024x1024) (e := .bf16) (Memref.whole bQ) (Rect.unit (s := S1024x1024) off S256x512.size inb).toLoadRect hl) fun (q : (S256x512 : Shape).Idx → F .bf16) =>
                .op (.load (cs := .vmem) (s := S2x4x1024x128) (e := .f32) (Memref.whole bK) (Rect.unit (s := S2x4x1024x128) off' S1x1x1024x128.size inb').toLoadRect hl') fun (k : (S1x1x1024x128 : Shape).Idx → F .f32) =>
                .op (.load (cs := .vmem) (s := S2x4x1024x128) (e := .f32) (Memref.whole bV) (Rect.unit (s := S2x4x1024x128) off' S1x1x1024x128.size inb').toLoadRect hl'') fun (v : (S1x1x1024x128 : Shape).Idx → F .f32) =>
                .op (.load (cs := .vmem) (s := S1024x1024) (e := .bf16) (Memref.whole bAttn) (Rect.unit (s := S1024x1024) off S256x512.size inb).toLoadRect hl₃) fun _ =>
                .op (.store (Memref.whole bAttn) (Rect.unit (s := S1024x1024) off S256x512.size inb) (k0_pay7 (k0_pay1 q) (k0_pay2 k) v) Finset.univ hx hm) kk
                  : Prog (TpuEff nD τ sig (Elt F) Λ₀ .tc) α) Q) := by
  unfold AttIs Qkv
  iintro ⟨⟨%f, %hf, Ha⟩, Hq, Hk, Hv⟩ HK
  have eq := readAt_whole (Val := Elt F) bQ (Qf m c : Buf (Elt F) ((c : Thread nD τ).loc bQ)) inb ho (qblk_inb b g hb hg)
  have ek := readAt_whole (Val := Elt F) bK (stg c (kC m c) : Buf (Elt F) ((c : Thread nD τ).loc bK)) inb' ho' (kblk_inb b g hb hg)
  have ev := readAt_whole (Val := Elt F) bV (stg c (vC m c) : Buf (Elt F) ((c : Thread nD τ).loc bV)) inb' ho' (kblk_inb b g hb hg)
  have ew := write_whole (Val := Elt F) bAttn f inb (AttnB m c b g hb hg) ho
  iapply (wp_load 𝒱₀ (c : Thread nD τ) none Set.univ (m := Memref.whole bQ) (Finset.subset_univ _)) $$ Hq; iintro Hq
  iapply (wp_load 𝒱₀ (c : Thread nD τ) none Set.univ (m := Memref.whole bK) (Finset.subset_univ _)) $$ Hk; iintro Hk
  iapply (wp_load 𝒱₀ (c : Thread nD τ) none Set.univ (m := Memref.whole bV) (Finset.subset_univ _)) $$ Hv; iintro Hv
  iapply (wp_load 𝒱₀ (c : Thread nD τ) none Set.univ (m := Memref.whole bAttn) (Finset.subset_univ _)) $$ Ha; iintro Ha
  rw [eq, ek, ev]
  iapply (wp_store 𝒱₀ (c : Thread nD τ) none Set.univ (m := Memref.whole bAttn) (r := Rect.unit (s := S1024x1024) off S256x512.size inb) (Mk := Finset.univ) (Finset.subset_univ _)) $$ Ha
  iintro Ha
  iapply HK
  isplitl [Ha]
  · iexists (VecWindow.put f ![256 * b, 512 * g] S256x512.size (AttnB m c b g hb hg))
    isplitr
    · ipureintro
      intro i hi
      by_cases h : (i 0).val / 256 = b ∧ (i 1).val / 512 = g
      · obtain ⟨rfl, rfl⟩ := h
        exact put_block_in _ _ _ _ i rfl rfl
      · exact (put_block_out _ _ _ _ i h).trans (hf i (hi.resolve_right h))
    rw [← ew]
    iexact Ha
  isplitl [Hq]; · iexact Hq
  isplitl [Hk]; · iexact Hk
  iexact Hv

/-- A trip adds its block to those done. -/
theorem blk_succ (o t : ℕ) (b g : ℕ) (hg : g < 2) (h : blk o (t + 1) b g) :
    blk o t b g ∨ (b = o / 256 + t / 2 ∧ g = t % 2) := by
  unfold blk at *
  omega

theorem trips1 : k0_t1_loop.trips = 4 := by decide +kernel
theorem trips2 : k0_t2_loop.trips = 4 := by decide +kernel

theorem sb0_block : ∀ c : Dev nD, 256 * (sb 0 c / 256) = sb 0 c ∧ sb 0 c / 256 ≤ 2 := by decide +kernel
theorem kb0_block : ∀ c : Dev nD, 256 * (kb 0 c / 256) = kb 0 c ∧ kb 0 c / 256 ≤ 2 := by decide +kernel

/-- A trip of the first loop, over the half sent first. -/
theorem trip1 (v2 v102 : BitVec 32) (t : Fin k0_t1_loop.trips) (u : Unit) :
    iprop(AttIs m c (blk (sb 0 c) t) ∗ Qkv m c)
      ⊢ wp frame (wpE (defs₀ (F := F)) 𝒱₀ (c : Thread nD τ) none) Set.univ (onBufs (k0_t1_body (F := F)) c v2 v102 t u)
          (fun _ => iprop(AttIs m c (blk (sb 0 c) (t + 1)) ∗ Qkv m c)) := by
  have ht : t.val < 4 := lt_of_lt_of_eq t.isLt trips1
  have hs := sb0_block c
  have h2 : k0_off2 c t = ![256 * (sb 0 c / 256 + t.val / 2), 512 * (t.val % 2)] := by
    rw [off2_eq]; congr 1; omega
  simp only [onBufs, k0_t1_body, k0_part1_eq_skeleton]
  unfold k0_part1_skel
  simp only [Prog.lift, Prog.bind_op, Prog.bind_ret, Prog.pure_eq_ret]
  iintro H
  iapply (att_trip m c (sb 0 c / 256 + t.val / 2) (t.val % 2) (by omega) (by omega) h2 (off3_eq c t)) $$ H
  iintro ⟨Ha, H⟩
  rw [wp_ret]
  imodintro
  isplitl [Ha]
  · iapply (AttIs.mono m c (fun b g hg h => blk_succ (sb 0 c) t.val b g hg h)) $$ Ha
  iexact H

/-- A trip of the second, over the half kept. -/
theorem trip2 (v2 v100 v102 v103 : BitVec 32) (t : Fin k0_t2_loop.trips) (u : Unit) :
    iprop(AttIs m c (blk (kb 0 c) t) ∗ Qkv m c)
      ⊢ wp frame (wpE (defs₀ (F := F)) 𝒱₀ (c : Thread nD τ) none) Set.univ (onBufs (k0_t2_body (F := F)) c v2 v100 v102 v103 t u)
          (fun _ => iprop(AttIs m c (blk (kb 0 c) (t + 1)) ∗ Qkv m c)) := by
  have ht : t.val < 4 := lt_of_lt_of_eq t.isLt trips2
  have hs := kb0_block c
  have h2 : k0_off5 c t = ![256 * (kb 0 c / 256 + t.val / 2), 512 * (t.val % 2)] := by
    rw [off5_eq]; congr 1; omega
  simp only [onBufs, k0_t2_body, k0_part2_eq_skeleton]
  unfold k0_part2_skel
  simp only [Prog.lift, Prog.bind_op, Prog.bind_ret, Prog.pure_eq_ret]
  iintro H
  iapply (att_trip m c (kb 0 c / 256 + t.val / 2) (t.val % 2) (by omega) (by omega) h2 (off6_eq c t)) $$ H
  iintro ⟨Ha, H⟩
  rw [wp_ret]
  imodintro
  isplitl [Ha]
  · iapply (AttIs.mono m c (fun b g hg h => blk_succ (kb 0 c) t.val b g hg h)) $$ Ha
  iexact H

/-- The first loop: the half sent first, computed. -/
theorem loop1 (v2 v102 : BitVec 32) {α : Type} {Q : α → sProp 𝕄} {kk : Unit → Prog (TpuEff nD τ sig (Elt F) Λ₀ .tc) α} :
    iprop(AttIs m c (blk (sb 0 c) 0) ∗ Qkv m c)
      ⊢ iprop((iprop(AttIs m c (blk (sb 0 c) 4) ∗ Qkv m c) -∗ wp frame (wpE (defs₀ (F := F)) 𝒱₀ (c : Thread nD τ) none) Set.univ (kk ⟨⟩) Q)
          -∗ wp frame (wpE (defs₀ (F := F)) 𝒱₀ (c : Thread nD τ) none) Set.univ
              (Scf.for k0_t1_loop.lb k0_t1_loop.ub k0_t1_loop.st k0_t1_ok ⟨⟩ (onBufs (k0_t1_body (F := F)) c v2 v102) >>= kk) Q) := by
  iintro H HK
  iapply (Scf.wp_for_bind frame (wpE (defs₀ (F := F)) 𝒱₀ (c : Thread nD τ) none) Set.univ k0_t1_loop.lb k0_t1_loop.ub k0_t1_loop.st k0_t1_ok _ _
    (fun t _ => iprop(AttIs m c (blk (sb 0 c) t) ∗ Qkv m c)) (trip1 m c v2 v102)) $$ H
  iintro %u H
  iapply HK
  iexact H

/-- The second: the half kept. -/
theorem loop2 (v2 v100 v102 v103 : BitVec 32) {α : Type} {Q : α → sProp 𝕄} {kk : Unit → Prog (TpuEff nD τ sig (Elt F) Λ₀ .tc) α} :
    iprop(AttIs m c (blk (kb 0 c) 0) ∗ Qkv m c)
      ⊢ iprop((iprop(AttIs m c (blk (kb 0 c) 4) ∗ Qkv m c) -∗ wp frame (wpE (defs₀ (F := F)) 𝒱₀ (c : Thread nD τ) none) Set.univ (kk ⟨⟩) Q)
          -∗ wp frame (wpE (defs₀ (F := F)) 𝒱₀ (c : Thread nD τ) none) Set.univ
              (Scf.for k0_t2_loop.lb k0_t2_loop.ub k0_t2_loop.st k0_t2_ok ⟨⟩ (onBufs (k0_t2_body (F := F)) c v2 v100 v102 v103) >>= kk) Q) := by
  iintro H HK
  iapply (Scf.wp_for_bind frame (wpE (defs₀ (F := F)) 𝒱₀ (c : Thread nD τ) none) Set.univ k0_t2_loop.lb k0_t2_loop.ub k0_t2_loop.st k0_t2_ok _ _
    (fun t _ => iprop(AttIs m c (blk (kb 0 c) t) ∗ Qkv m c)) (trip2 m c v2 v100 v102 v103)) $$ H
  iintro %u H
  iapply HK
  iexact H

/-! ## The products with the output weights -/

/-- The half's product is the partial product's rows there. -/
theorem part_on (f : (S1024x1024 : Shape).Idx → F .f32) (h : ℕ) (hh : h < 2) :
    On (pt f (512 * h) 512 (PartH m c h hh)) (X m 0 c) (512 * h) 512 := by
  intro i h1 h2
  rw [pt_in f _ _ _ i h1 h2]
  have e : row i / 512 = h := by omega
  subst e
  show _ = PartH m c (row i / 512) _ (ix2 ⟨row i % 512, _⟩ (i 1))
  refine congrArg _ ?_
  funext a
  fin_cases a
  · exact Fin.ext (by show row i - 512 * (row i / 512) = row i % 512; omega)
  · rfl

/-- The output weights, staged. -/
def WoIs (c : Dev nD) : sProp 𝕄 :=
  iprop(((c : Thread nD τ).loc bWo ↦{fullShare} (woC m c : Buf (Elt F) ((c : Thread nD τ).loc bWo))))
/-- The partial product's buffer, at anything. -/
def PartAny (c : Dev nD) : sProp 𝕄 :=
  iprop(∃ f : Buf (Elt F) ((c : Thread nD τ).loc bPart), ((c : Thread nD τ).loc bPart ↦{fullShare} f))

/-- The product of half `h`'s rows of the attention with the output weights, stored. -/
theorem product (h : ℕ) (hh : h < 2) {o : ℕ} (e : o = 512 * h) {off : Fin 2 → ℕ} (ho : off = ![o, 0]) {inb} {inb'} {hl} {hl'} {hl''} {hx} {hm}
    {α : Type} {Q : α → sProp 𝕄} {kk} :
    iprop(AttIs m c (blk o 4) ∗ WoIs m c ∗ PartAny c)
      ⊢ iprop((iprop(AttIs m c (blk o 4) ∗ WoIs m c ∗ PartOn m 0 o 512 c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (cs := .vmem) (s := S1024x1024) (e := .bf16) (Memref.whole bAttn) (Rect.unit (s := S1024x1024) off S512x1024.size inb).toLoadRect hl) fun (a : (S512x1024 : Shape).Idx → F .bf16) =>
                .op (.load (cs := .vmem) (s := S1024x1024) (e := .f32) (Memref.whole bWo) (Rect.unit (s := S1024x1024) ![0, 0] S1024x1024.size inb').toLoadRect hl') fun (w : (S1024x1024 : Shape).Idx → F .f32) =>
                .op (.load (cs := .vmem) (s := S1024x1024) (e := .f32) (Memref.whole bPart) (Rect.unit (s := S1024x1024) off S512x1024.size inb).toLoadRect hl'') fun _ =>
                .op (.store (Memref.whole bPart) (Rect.unit (s := S1024x1024) off S512x1024.size inb) (k0_pay8 a w) Finset.univ hx hm) kk
                  : Prog (TpuEff nD τ sig (Elt F) Λ₀ .tc) α) Q) := by
  subst e
  unfold AttIs WoIs PartAny
  iintro ⟨⟨%f, %hf, Ha⟩, Hw, ⟨%g, Hp⟩⟩ HK
  have hz : (![0, 0] : Fin 2 → ℕ) = fun _ => 0 := funext fun a => by fin_cases a <;> rfl
  have ew : (Memref.whole bWo).view.readAt (Elt F) (Rect.unit (s := S1024x1024) ![0, 0] S1024x1024.size inb').toLoadRect
      (woC m c : Buf (Elt F) ((c : Thread nD τ).loc bWo)) = woC m c := Memref.readAt_unit_zero (Elt F) bWo hz inb' _
  have ea : rd (R := 1024) f (512 * h) 512 (half_inb h hh) = rd (Attn m c) (512 * h) 512 (half_inb h hh) := by
    have hon : On (R := 1024) f (Attn m c) (512 * h) 512 := fun i h1 h2 => hf i (by
      have := col_lt i
      change 512 * h ≤ (i 0).val at h1
      change (i 0).val < 512 * h + 512 at h2
      unfold blk
      omega)
    exact hon.rd (half_inb h hh)
  iapply (ld_attn c 512 (512 * h) (half_inb h hh) ho f) $$ Ha; iintro Ha
  iapply (wp_load 𝒱₀ (c : Thread nD τ) none Set.univ (m := Memref.whole bWo) (Finset.subset_univ _)) $$ Hw; iintro Hw
  rw [ew, ea]
  iapply (ld_part c 512 (512 * h) (half_inb h hh) ho g) $$ Hp; iintro Hp
  iapply (st_part c 512 (512 * h) ho g) $$ Hp; iintro Hp
  iapply HK
  isplitl [Ha]
  · iexists f; isplitr; · ipureintro; exact hf
    iexact Ha
  isplitl [Hw]; · iexact Hw
  unfold PartOn
  iexists _
  isplitr
  swap; · iexact Hp
  ipureintro
  exact part_on m c g h hh

theorem sb0_half : ∀ c : Dev nD, sb 0 c / 512 < 2 ∧ sb 0 c = 512 * (sb 0 c / 512) := by decide +kernel
theorem kb0_half : ∀ c : Dev nD, kb 0 c / 512 < 2 ∧ kb 0 c = 512 * (kb 0 c / 512) := by decide +kernel

/-- The first half's product, sent; the second half's attention. -/
theorem sound7 (v2 v100 v102 v103 : BitVec 32) {Q : _ → sProp 𝕄} :
    iprop(PF m K ∗ AttIs m c (blk (sb 0 c) 4) ∗ Qkv m c ∗ WoIs m c ∗ PartAny c ∗ ToSend 0 c ∗ Owe c 8)
      ⊢ iprop((∀ b, iprop(AttIs m c (blk (kb 0 c) 4) ∗ Qkv m c ∗ WoIs m c ∗ PartAny c ∗ sent? 0 c ∗ Owe c 7) -∗ Q b)
          -∗ wp frame (wpE (defs₀ (F := F)) 𝒱₀ (c : Thread nD τ) none) Set.univ (onBufs (k0_part7 (F := F)) c v2 v100 v102 v103) Q) := by
  simp only [onBufs, k0_part7_eq_skeleton]
  unfold k0_part7_skel ToSend
  simp only [Prog.lift, Prog.bind_op, Prog.bind_ret, Prog.pure_eq_ret]
  iintro ⟨#HP, Ha, Hq, Hw, Hp, ⟨Hin, Ht, Hs⟩, HO⟩ Hk
  have hh := sb0_half c
  iapply (product m c _ hh.1 hh.2 (off4a_eq c)) $$ [Ha Hw Hp]
  · isplitl [Ha]; · iexact Ha
    isplitl [Hw] <;> iassumption
  iintro ⟨Ha, Hw, Hp⟩
  iapply (rs_fill m c 0 (o := sb 0 c) (n := 512) (le_refl _) (le_refl _) (off4b_eq c) pay9_eq) $$ [Hp Hs]
  · isplitl [Hp]; · iexact Hp
    iexact Hs
  iintro ⟨Hp, Hf⟩
  iapply (rs_send m K c 0 (by decide) _ (dev5_eq c)) $$ [Hf Hin Ht HO]
  · isplitr; · iexact HP
    isplitl [Hf]; · iexact Hf
    isplitl [Hin]; · iexact Hin
    isplitl [Ht]; · iexact Ht
    iexact HO
  iintro ⟨Hc, HO⟩
  iapply (loop2 m c v2 v100 v102 v103) $$ [Ha Hq]
  · isplitl [Ha]
    · iapply (AttIs.mono m c (fun b g hg h => absurd h.2 (Nat.not_lt_zero _))) $$ Ha
    iexact Hq
  iintro ⟨Ha, Hq⟩
  rw [wp_ret]
  imodintro
  iapply Hk
  isplitl [Ha]; · iexact Ha
  isplitl [Hq]; · iexact Hq
  isplitl [Hw]; · iexact Hw
  isplitl [Hp]
  · unfold PartOn PartAny
    icases Hp with ⟨%f, -, Hp⟩
    iexists f; iexact Hp
  isplitl [Hc]; · iexact Hc
  iexact HO

/-- The second half's product; transfer 0's arrival, its sums stored. -/
theorem sound8 (v95 v98 v103 v124 : BitVec 32) {Q : _ → sProp 𝕄} :
    iprop(PF m K ∗ AttIs m c (blk (kb 0 c) 4) ∗ WoIs m c ∗ PartAny c ∗ rpos 0 c ∗ Owe c 7)
      ⊢ iprop((∀ b, iprop(AttIs m c (blk (kb 0 c) 4) ∗ WoIs m c ∗ PartOn m 1 (kb 0 c) (rws 0) c ∗ semVal (recvCell 0 c) 0 ∗ RsAny 0 c ∗ Owe c 7) -∗ Q b)
          -∗ wp frame (wpE (defs₀ (F := F)) 𝒱₀ (c : Thread nD τ) none) Set.univ (onBufs (k0_part8 (F := F)) c v95 v98 v103 v124) Q) := by
  simp only [onBufs, k0_part8_eq_skeleton]
  unfold k0_part8_skel
  simp only [Prog.lift, Prog.bind_op, Prog.bind_ret, Prog.pure_eq_ret]
  iintro ⟨#HP, Ha, Hw, Hp, Hr, HO⟩ Hk
  have hh := kb0_half c
  iapply (product m c _ hh.1 hh.2 (off7a_eq c)) $$ [Ha Hw Hp]
  · isplitl [Ha]; · iexact Ha
    isplitl [Hw] <;> iassumption
  iintro ⟨Ha, Hw, Hp⟩
  iapply (rs_wait m K c 0 (by decide) (o := kb 0 c) (n := 512) (le_refl _) (le_refl _) (off7b_eq c)) $$ [Hr HO Hp]
  · isplitr; · iexact HP
    isplitl [Hr]; · iexact Hr
    isplitl [HO]; · iexact HO
    iexact Hp
  iintro ⟨HO, Hp, Hz, Hin⟩
  iapply (rs_store m c 0 (by decide) (off7b_eq c) (pay12_eq _ _)) $$ Hp
  iintro Hp
  rw [wp_ret]
  imodintro
  iapply Hk
  isplitl [Ha]; · iexact Ha
  isplitl [Hw]; · iexact Hw
  isplitl [Hp]; · iexact Hp
  isplitl [Hz]; · iexact Hz
  isplitl [Hin]; · iexact Hin
  iexact HO

end Loop

end Cert.KProof

end
-- ==== Proof.Staging.lean ====
/-
# `Staging`: the copies of the keys and values from HBM
-/
module

public import proofs.«01_k».proof.Proof.Attention

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem half4_inb (g : Fin 2) : ∀ a, (![g.val, 0, 0, 0] : Fin 4 → ℕ) a + S1x4x1024x128.size a ≤ S2x4x1024x128.size a := by
  revert g; decide

/-- Head `2 c + g` of a cache in HBM; half `g` of its staging buffer. -/
abbrev srcOf (M : Memref sig .tc .hbm S4x1024x32x128 .f32) (c : Dev nD) (g : Fin 2) : Memref sig .tc .hbm S4x1024x128 .f32 :=
  (M.slice (Rect.unit (s := S4x1024x32x128) (k0_off1 c (BitVec.ofNat 32 g.val)) S4x1024x1x128.size (k0_off1_inb c g)) (fun _ => rfl)).squeeze S4x1024x128 squeezes_S4x1024x1x128_S4x1024x128
abbrev dstOf (D : Memref sig .tc .vmem S2x4x1024x128 .f32) (g : Fin 2) : Memref sig .tc .vmem S4x1024x128 .f32 :=
  (D.slice (Rect.unit (s := S2x4x1024x128) ![g.val, 0, 0, 0] S1x4x1024x128.size (half4_inb g)) (fun _ => rfl)).squeeze S4x1024x128 squeezes_S1x4x1024x128_S4x1024x128

/-! ## Where their elements lie -/

theorem src_reshape (h : (⟨3, ![4, 1024, 128]⟩ : Shape).numel = (⟨4, ![4, 1024, 1, 128]⟩ : Shape).numel) (x : Fin 4) (y : Fin 1024) (z : Fin 128) :
    Shape.reshapeEquiv h (ix3 x y z) = ix4 x y (0 : Fin 1) z :=
  Shape.reshapeEquiv_eq_of_rowMajor h (by
    rw [Shape.rowMajor_val_four, Shape.rowMajor_val_three]
    show ((x.val * 1024 + y.val) * 1 + 0) * 128 + z.val = (x.val * 1024 + y.val) * 128 + z.val
    omega)

theorem dst_reshape (h : (⟨3, ![4, 1024, 128]⟩ : Shape).numel = (⟨4, ![1, 4, 1024, 128]⟩ : Shape).numel) (x : Fin 4) (y : Fin 1024) (z : Fin 128) :
    Shape.reshapeEquiv h (ix3 x y z) = ix4 (0 : Fin 1) x y z :=
  Shape.reshapeEquiv_eq_of_rowMajor h (by
    rw [Shape.rowMajor_val_four, Shape.rowMajor_val_three]
    show ((0 * 4 + x.val) * 1024 + y.val) * 128 + z.val = (x.val * 1024 + y.val) * 128 + z.val
    omega)

theorem src_emb (M : Memref sig .tc .hbm S4x1024x32x128 .f32) (c : Dev nD) (g : Fin 2) (x : Fin 4) (y : Fin 1024) (z : Fin 128) :
    (srcOf M c g).view.emb (ix3 x y z) = M.view.emb (ix4 x y ⟨2 * c.val + g.val, head_lt c g⟩ z) := by
  show M.view.emb ((Rect.unit (s := S4x1024x32x128) (k0_off1 c (BitVec.ofNat 32 g.val)) S4x1024x1x128.size (k0_off1_inb c g)).emb
    (Shape.reshapeEquiv squeezes_S4x1024x1x128_S4x1024x128.numel_eq (ix3 x y z))) = _
  refine congrArg M.view.emb ?_
  rw [src_reshape]
  funext a
  refine Fin.ext ?_
  rw [Rect.emb_apply]
  show k0_off1 c (BitVec.ofNat 32 g.val) a + 1 * (ix4 x y (0 : Fin 1) z a).val = _
  rw [k0_off1_eq]
  fin_cases a
  · show 0 + 1 * x.val = x.val; omega
  · show 0 + 1 * y.val = y.val; omega
  · show (2 * c.val + g.val) + 1 * 0 = 2 * c.val + g.val; omega
  · show 0 + 1 * z.val = z.val; omega

theorem dst_emb (D : Memref sig .tc .vmem S2x4x1024x128 .f32) (g : Fin 2) (x : Fin 4) (y : Fin 1024) (z : Fin 128) :
    (dstOf D g).view.emb (ix3 x y z) = D.view.emb (ix4 g x y z) := by
  show D.view.emb ((Rect.unit (s := S2x4x1024x128) ![g.val, 0, 0, 0] S1x4x1024x128.size (half4_inb g)).emb
    (Shape.reshapeEquiv squeezes_S1x4x1024x128_S4x1024x128.numel_eq (ix3 x y z))) = _
  refine congrArg D.view.emb ?_
  rw [dst_reshape]
  funext a
  refine Fin.ext ?_
  rw [Rect.emb_apply]
  fin_cases a
  · show g.val + 1 * 0 = g.val; omega
  · show 0 + 1 * x.val = x.val; omega
  · show 0 + 1 * y.val = y.val; omega
  · show 0 + 1 * z.val = z.val; omega

theorem ix3_eta {a b d : ℕ} (i : (⟨3, ![a, b, d]⟩ : Shape).Idx) : ix3 (i 0) (i 1) (i 2) = i := by
  funext k; fin_cases k <;> rfl
theorem ix4_eta {a b d e : ℕ} (i : (⟨4, ![a, b, d, e]⟩ : Shape).Idx) : ix4 (i 0) (i 1) (i 2) (i 3) = i := by
  funext k; fin_cases k <;> rfl

/-- The element of HBM, and of the staging buffer, an element of the copy comes from, and goes to. -/
theorem src_emb_idx (M : Memref sig .tc .hbm S4x1024x32x128 .f32) (c : Dev nD) (g : Fin 2) (y : (S4x1024x128 : Shape).Idx) :
    (srcOf M c g).view.emb y = M.view.emb (ix4 (y 0) (y 1) ⟨2 * c.val + g.val, head_lt c g⟩ (y 2)) :=
  (congrArg (srcOf M c g).view.emb (ix3_eta y).symm).trans (src_emb M c g (y 0) (y 1) (y 2))
theorem dst_emb_idx (D : Memref sig .tc .vmem S2x4x1024x128 .f32) (g : Fin 2) (y : (S4x1024x128 : Shape).Idx) :
    (dstOf D g).view.emb y = D.view.emb (ix4 g (y 0) (y 1) (y 2)) :=
  (congrArg (dstOf D g).view.emb (ix3_eta y).symm).trans (dst_emb D g (y 0) (y 1) (y 2))

theorem mem_src (M : Memref sig .tc .hbm S4x1024x32x128 .f32) (c : Dev nD) (g : Fin 2) (i) :
    i ∈ (srcOf M c g).view.set ↔ ∃ j : (S4x1024x32x128 : Shape).Idx, (j 2).val = 2 * c.val + g.val ∧ M.view.emb j = i := by
  constructor
  · intro h
    obtain ⟨y, -, e⟩ := Finset.mem_map.mp h
    refine ⟨ix4 (y 0) (y 1) ⟨2 * c.val + g.val, head_lt c g⟩ (y 2), rfl, ?_⟩
    exact (src_emb_idx M c g y).symm.trans e
  · rintro ⟨j, hj, e⟩
    refine Finset.mem_map.mpr ⟨ix3 (j 0) (j 1) (j 3), Finset.mem_univ _, ?_⟩
    refine (src_emb M c g (j 0) (j 1) (j 3)).trans (Eq.trans (congrArg M.view.emb ?_) e)
    have : (⟨2 * c.val + g.val, head_lt c g⟩ : Fin 32) = j 2 := Fin.ext hj.symm
    rw [this]; exact ix4_eta j

theorem mem_dst (D : Memref sig .tc .vmem S2x4x1024x128 .f32) (g : Fin 2) (i) :
    i ∈ (dstOf D g).view.set ↔ ∃ j : (S2x4x1024x128 : Shape).Idx, j 0 = g ∧ D.view.emb j = i := by
  constructor
  · intro h
    obtain ⟨y, -, e⟩ := Finset.mem_map.mp h
    refine ⟨ix4 g (y 0) (y 1) (y 2), rfl, ?_⟩
    exact (dst_emb_idx D g y).symm.trans e
  · rintro ⟨j, hj, e⟩
    refine Finset.mem_map.mpr ⟨ix3 (j 1) (j 2) (j 3), Finset.mem_univ _, ?_⟩
    refine (dst_emb D g (j 1) (j 2) (j 3)).trans (Eq.trans (congrArg D.view.emb ?_) e)
    rw [← hj]; exact ix4_eta j

/-- The two heads' elements are apart; -/
theorem src_sub (M : Memref sig .tc .hbm S4x1024x32x128 .f32) (c : Dev nD) :
    (srcOf M c 0).view.set ⊆ M.view.set ∧ (srcOf M c 1).view.set ⊆ M.view.set \ (srcOf M c 0).view.set := by
  have hs : ∀ g i, i ∈ (srcOf M c g).view.set → i ∈ M.view.set := fun g i h => by
    obtain ⟨j, -, e⟩ := (mem_src M c g i).mp h
    exact Finset.mem_map.mpr ⟨j, Finset.mem_univ _, e⟩
  refine ⟨fun i h => hs 0 i h, fun i h => Finset.mem_sdiff.mpr ⟨hs 1 i h, fun h' => ?_⟩⟩
  obtain ⟨j, hj, e⟩ := (mem_src M c 1 i).mp h
  obtain ⟨j', hj', e'⟩ := (mem_src M c 0 i).mp h'
  obtain rfl : j = j' := M.view.emb.injective (e.trans e'.symm)
  rw [hj] at hj'
  exact absurd hj' (by show ¬ (2 * c.val + 1 = 2 * c.val + 0); omega)

/-- the two halves are the staging buffer. -/
theorem dst_sub (D : Memref sig .tc .vmem S2x4x1024x128 .f32) :
    (dstOf D 0).view.set ⊆ D.view.set ∧ D.view.set \ (dstOf D 0).view.set = (dstOf D 1).view.set := by
  have hs : ∀ g i, i ∈ (dstOf D g).view.set → i ∈ D.view.set := fun g i h => by
    obtain ⟨j, -, e⟩ := (mem_dst D g i).mp h
    exact Finset.mem_map.mpr ⟨j, Finset.mem_univ _, e⟩
  refine ⟨fun i h => hs 0 i h, Finset.ext fun i => ⟨fun h => ?_, fun h => Finset.mem_sdiff.mpr ⟨hs 1 i h, fun h' => ?_⟩⟩⟩
  · obtain ⟨h1, h2⟩ := Finset.mem_sdiff.mp h
    obtain ⟨j, -, e⟩ := Finset.mem_map.mp h1
    refine (mem_dst D 1 i).mpr ⟨j, ?_, e⟩
    by_contra hne
    refine h2 ((mem_dst D 0 i).mpr ⟨j, ?_, e⟩)
    have := (j 0).isLt
    change (j 0).val < 2 at this
    refine Fin.ext (show (j 0).val = 0 from ?_)
    have : (j 0).val ≠ 1 := fun h => hne (Fin.ext h)
    omega
  · obtain ⟨j, hj, e⟩ := (mem_dst D 1 i).mp h
    obtain ⟨j', hj', e'⟩ := (mem_dst D 0 i).mp h'
    obtain rfl : j = j' := D.view.emb.injective (e.trans e'.symm)
    rw [hj] at hj'
    exact absurd (congrArg Fin.val hj') Nat.one_ne_zero

/-- A copy of a head over its half leaves there what the staging buffer is to hold. -/
theorem copied (M : Memref sig .tc .hbm S4x1024x32x128 .f32) (D : Memref sig .tc .vmem S2x4x1024x128 .f32) (c : Dev nD) (g : Fin 2)
    (fs : Buf (Elt F) (M.view.loc (c : Thread nD τ))) (fd fv : Buf (Elt F) (D.view.loc (c : Thread nD τ)))
    (hv : D.view.read (Elt F) fv = stg c (M.view.read (Elt F) fs)) :
    ∀ i ∈ (dstOf D g).view.set, (dstOf D g).view.write (Elt F) fd ((srcOf M c g).view.read (Elt F) fs) Finset.univ i = fv i := by
  intro i hi
  obtain ⟨y, -, rfl⟩ := Finset.mem_map.mp hi
  rw [View.write_emb_of_mem (v := (dstOf D g).view) _ _ (Finset.mem_univ y)]
  have h := congrFun hv (ix4 g (y 0) (y 1) (y 2))
  have e1 : (srcOf M c g).view.read (Elt F) fs y = M.view.read (Elt F) fs (ix4 (y 0) (y 1) ⟨2 * c.val + g.val, head_lt c g⟩ (y 2)) :=
    (View.read_apply _ _).trans ((congrArg (fun i => cast _ (fs i)) (src_emb_idx M c g y)).trans (View.read_apply _ _).symm)
  have e2 : (dstOf D g).view.read (Elt F) fv y = D.view.read (Elt F) fv (ix4 g (y 0) (y 1) (y 2)) :=
    (View.read_apply _ _).trans ((congrArg (fun i => cast _ (fv i)) (dst_emb_idx D g y)).trans (View.read_apply _ _).symm)
  rw [e1.trans (h.symm.trans e2.symm), View.read_apply]
  exact cast_cast _ _ _

/-! ## A copy under way -/

variable {c : Dev nD}

/-- Head `g`'s copy is under way: its arrival hands over the filled half and the head. -/
def Flying (M : Memref sig .tc .hbm S4x1024x32x128 .f32) (D : Memref sig .tc .vmem S2x4x1024x128 .f32) (c : Dev nD) (g : Fin 2) (sm : DmaSem sig)
    (fs : Buf (Elt F) (M.view.loc (c : Thread nD τ))) (fv : Buf (Elt F) (D.view.loc (c : Thread nD τ))) : sProp 𝕄 :=
  Transfers.Flight EC (c : Thread nD τ) (.dma sm) () (dstOf D g).view.dmaCredit
    iprop((D.view.loc (c : Thread nD τ) ↦[(dstOf D g).view.set]{fullShare} fv) ∗ (M.view.loc (c : Thread nD τ) ↦[(srcOf M c g).view.set]{fullShare} fs))

theorem start_copy (M : Memref sig .tc .hbm S4x1024x32x128 .f32) (D : Memref sig .tc .vmem S2x4x1024x128 .f32) (g : Fin 2) (sm : DmaSem sig)
    (fs : Buf (Elt F) (M.view.loc (c : Thread nD τ))) (fd fv : Buf (Elt F) (D.view.loc (c : Thread nD τ)))
    (hv : D.view.read (Elt F) fv = stg c (M.view.read (Elt F) fs)) (h0 : 0 < (dstOf D g).view.dmaCredit)
    {hsrc : (srcOf M c g).view.WordExact} {hdst : (dstOf D g).view.WordExact}
    {hsem : DmaTarget.Typed (nD := nD) .hbm (.dma sm) (.here (dstOf D g) : DmaTarget nD τ sig .tc .vmem S4x1024x128 .f32)}
    {α : Type} {Q : α → sProp 𝕄} {kk : PUnit → Prog (TpuEff nD τ sig (Elt F) Λ₀ .tc) α} :
    iprop((M.view.loc (c : Thread nD τ) ↦[(srcOf M c g).view.set]{fullShare} fs) ∗ (D.view.loc (c : Thread nD τ) ↦[(dstOf D g).view.set]{fullShare} fd)
        ∗ semVal ((c : Thread nD τ), .dma sm) 0)
      ⊢ iprop((Flying M D c g sm fs fv -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcOf M c g) (.here (dstOf D g)) (.dma sm) hsrc hdst hsem) kk) Q) := by
  have e : (D.view.loc (c : Thread nD τ) ↦[(dstOf D g).view.set]{fullShare}
        (dstOf D g).view.write (Elt F) fd ((srcOf M c g).view.read (Elt F) fs) Finset.univ : sProp 𝕄)
      = (D.view.loc (c : Thread nD τ) ↦[(dstOf D g).view.set]{fullShare} fv) :=
    pointsTo_congr (copied M D c g fs fd fv hv)
  unfold Flying
  rw [← e]
  iintro ⟨HM, HD, Hs⟩ Hk
  iapply (Transfers.wp_dmaLocal EC 𝒱₀ (c : Thread nD τ) none () (dstOf D g).view.dmaCredit rfl h0 (Finset.Subset.refl _)) $$ [HM HD Hs]
  · isplitl [HM]; · iexact HM
    isplitl [HD]; · iexact HD
    iexact Hs
  iintro HF
  iapply Hk; iexact HF

theorem wait_copy (K : Dev nD × CI → ℕ) (M : Memref sig .tc .hbm S4x1024x32x128 .f32) (D : Memref sig .tc .vmem S2x4x1024x128 .f32) (g : Fin 2) (sm : DmaSem sig)
    (hsm : 20 ≤ sm.val)
    (fs : Buf (Elt F) (M.view.loc (c : Thread nD τ))) (fv : Buf (Elt F) (D.view.loc (c : Thread nD τ)))
    {hsrc : (srcOf M c g).view.WordExact} {hdst : (dstOf D g).view.WordExact}
    {α : Type} {Q : α → sProp 𝕄} {kk : PUnit → Prog (TpuEff nD τ sig (Elt F) Λ₀ .tc) α} :
    iprop(PF m K ∗ Flying M D c g sm fs fv ∗ Owe c 8)
      ⊢ iprop((iprop((D.view.loc (c : Thread nD τ) ↦[(dstOf D g).view.set]{fullShare} fv) ∗ (M.view.loc (c : Thread nD τ) ↦[(srcOf M c g).view.set]{fullShare} fs)
              ∗ semVal ((c : Thread nD τ), .dma sm) 0 ∗ Owe c 8) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sm (srcOf M c g) (dstOf D g) hsrc hdst) kk) Q) := by
  unfold Flying Owe
  iintro ⟨#HP, HF, ⟨%W, HO⟩⟩ Hk
  iapply (Transfers.wp_waitLocalO EC 𝒱₀ (c : Thread nD τ) none () rfl) $$ [HF HO]
  · isplitl [HF]; · iexact HF
    isplitl [HO]; · iexact HO
    iapply (mayWait_of (F := F) c (.dma sm) 8 (by decide)
      (by
        have h : lvS (.dma sm) = 0 := if_neg (by show ¬ (12 ≤ sm.val ∧ sm.val < 20); omega)
        omega))
    iapply (PF_lev m K); iexact HP
  iintro ⟨⟨HD, HM⟩, Hs, HO⟩
  iapply Hk
  isplitl [HD]; · iexact HD
  isplitl [HM]; · iexact HM
  isplitl [Hs]; · iexact Hs
  iexists _; iexact HO

/-! ## Cutting the caches and the staging buffers -/

/-- The part of a cache no copy of this device reads. -/
def Unread (M : Memref sig .tc .hbm S4x1024x32x128 .f32) (c : Dev nD) (fs : Buf (Elt F) (M.view.loc (c : Thread nD τ))) : sProp 𝕄 :=
  iprop(M.view.loc (c : Thread nD τ) ↦[(M.view.set \ (srcOf M c 0).view.set) \ (srcOf M c 1).view.set]{fullShare} fs)

theorem cut_src (M : Memref sig .tc .hbm S4x1024x32x128 .f32) (c : Dev nD) (fs : Buf (Elt F) (M.view.loc (c : Thread nD τ))) :
    (M.view.loc (c : Thread nD τ) ↦[M.view.set]{fullShare} fs : sProp 𝕄)
      ⊣⊢ iprop((M.view.loc (c : Thread nD τ) ↦[(srcOf M c 0).view.set]{fullShare} fs) ∗ (M.view.loc (c : Thread nD τ) ↦[(srcOf M c 1).view.set]{fullShare} fs)
        ∗ Unread M c fs) :=
  (pointsTo_split_subset (src_sub M c).1).trans (sep_congr_right (pointsTo_split_subset (src_sub M c).2))

theorem cut_dst (D : Memref sig .tc .vmem S2x4x1024x128 .f32) (c : Dev nD) (fd : Buf (Elt F) (D.view.loc (c : Thread nD τ))) :
    (D.view.loc (c : Thread nD τ) ↦[D.view.set]{fullShare} fd : sProp 𝕄)
      ⊣⊢ iprop((D.view.loc (c : Thread nD τ) ↦[(dstOf D 0).view.set]{fullShare} fd) ∗ (D.view.loc (c : Thread nD τ) ↦[(dstOf D 1).view.set]{fullShare} fd)) := by
  have h := pointsTo_split_subset (Ix := Unit) (Name := ℕ) (U := UU) (Lvl := ℕ) (ℓ := D.view.loc (c : Thread nD τ)) (q := fullShare) (f := fd) (dst_sub D).1
  rw [(dst_sub D).2] at h
  exact h

end Cert.KProof

end
-- ==== Proof.Loads.lean ====
/-
# `Loads`: the kernel's start — the copies in, the barrier, the queries
-/
module

public import proofs.«01_k».proof.Proof.Staging

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ) {c : Dev nD}

/-! ## The four copies in -/

/-- The staging semaphores. -/
def kvS (r : Fin 4) : DmaSem sig := ⟨20 + r.val, by have := r.isLt; show 20 + r.val < 24; omega⟩
/-- Head `g` of the keys uses the first two, of the values the last two. -/
def kS (g : Fin 2) : DmaSem sig := kvS ⟨g.val, by have := g.isLt; omega⟩
def vS (g : Fin 2) : DmaSem sig := kvS ⟨2 + g.val, by have := g.isLt; omega⟩

/-- What a copy of a head of the keys starts from, -/
def KIn (g : Fin 2) (c : Dev nD) : sProp 𝕄 :=
  iprop(((Memref.whole main_arg2).view.loc (c : Thread nD τ) ↦[(srcOf (Memref.whole main_arg2) c g).view.set]{fullShare} (kC m c : Buf (Elt F) ((c : Thread nD τ).loc main_arg2)))
    ∗ (∃ f : Buf (Elt F) ((c : Thread nD τ).loc bK), (Memref.whole bK).view.loc (c : Thread nD τ) ↦[(dstOf (Memref.whole bK) g).view.set]{fullShare} f)
    ∗ semVal ((c : Thread nD τ), .dma (kS g)) 0)
/-- the copy under way, -/
def KFly (g : Fin 2) (c : Dev nD) : sProp 𝕄 :=
  Flying (Memref.whole main_arg2) (Memref.whole bK) c g (kS g) (kC m c : Buf (Elt F) ((c : Thread nD τ).loc main_arg2)) (stg c (kC m c) : Buf (Elt F) ((c : Thread nD τ).loc bK))
/-- and what it ends with. -/
def KOut (g : Fin 2) (c : Dev nD) : sProp 𝕄 :=
  iprop(((Memref.whole main_arg2).view.loc (c : Thread nD τ) ↦[(srcOf (Memref.whole main_arg2) c g).view.set]{fullShare} (kC m c : Buf (Elt F) ((c : Thread nD τ).loc main_arg2)))
    ∗ ((Memref.whole bK).view.loc (c : Thread nD τ) ↦[(dstOf (Memref.whole bK) g).view.set]{fullShare} (stg c (kC m c) : Buf (Elt F) ((c : Thread nD τ).loc bK)))
    ∗ semVal ((c : Thread nD τ), .dma (kS g)) 0)
/-- The same of the values. -/
def VIn (g : Fin 2) (c : Dev nD) : sProp 𝕄 :=
  iprop(((Memref.whole main_arg3).view.loc (c : Thread nD τ) ↦[(srcOf (Memref.whole main_arg3) c g).view.set]{fullShare} (vC m c : Buf (Elt F) ((c : Thread nD τ).loc main_arg3)))
    ∗ (∃ f : Buf (Elt F) ((c : Thread nD τ).loc bV), (Memref.whole bV).view.loc (c : Thread nD τ) ↦[(dstOf (Memref.whole bV) g).view.set]{fullShare} f)
    ∗ semVal ((c : Thread nD τ), .dma (vS g)) 0)
def VFly (g : Fin 2) (c : Dev nD) : sProp 𝕄 :=
  Flying (Memref.whole main_arg3) (Memref.whole bV) c g (vS g) (vC m c : Buf (Elt F) ((c : Thread nD τ).loc main_arg3)) (stg c (vC m c) : Buf (Elt F) ((c : Thread nD τ).loc bV))
def VOut (g : Fin 2) (c : Dev nD) : sProp 𝕄 :=
  iprop(((Memref.whole main_arg3).view.loc (c : Thread nD τ) ↦[(srcOf (Memref.whole main_arg3) c g).view.set]{fullShare} (vC m c : Buf (Elt F) ((c : Thread nD τ).loc main_arg3)))
    ∗ ((Memref.whole bV).view.loc (c : Thread nD τ) ↦[(dstOf (Memref.whole bV) g).view.set]{fullShare} (stg c (vC m c) : Buf (Elt F) ((c : Thread nD τ).loc bV)))
    ∗ semVal ((c : Thread nD τ), .dma (vS g)) 0)

theorem k_credit (g : Fin 2) : 0 < (dstOf (Memref.whole bK) g).view.dmaCredit := by revert g; decide
theorem v_credit (g : Fin 2) : 0 < (dstOf (Memref.whole bV) g).view.dmaCredit := by revert g; decide

theorem start_k (g : Fin 2)
    {hsrc : (srcOf (Memref.whole main_arg2) c g).view.WordExact} {hdst : (dstOf (Memref.whole bK) g).view.WordExact}
    {hsem : DmaTarget.Typed (nD := nD) .hbm (.dma (kS g)) (.here (dstOf (Memref.whole bK) g) : DmaTarget nD τ sig .tc .vmem S4x1024x128 .f32)}
    {α : Type} {Q : α → sProp 𝕄} {kk : PUnit → Prog (TpuEff nD τ sig (Elt F) Λ₀ .tc) α} :
    KIn m g c ⊢ iprop((KFly m g c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcOf (Memref.whole main_arg2) c g) (.here (dstOf (Memref.whole bK) g)) (.dma (kS g)) hsrc hdst hsem) kk) Q) := by
  unfold KIn KFly
  iintro ⟨HM, ⟨%f, HD⟩, Hs⟩ Hk
  iapply (start_copy (Memref.whole main_arg2) (Memref.whole bK) g (kS g) (kC m c : Buf (Elt F) ((c : Thread nD τ).loc main_arg2)) f
    (stg c (kC m c) : Buf (Elt F) ((c : Thread nD τ).loc bK)) rfl (k_credit g)) $$ [HM HD Hs]
  · isplitl [HM]; · iexact HM
    isplitl [HD]; · iexact HD
    iexact Hs
  iexact Hk

theorem start_v (g : Fin 2)
    {hsrc : (srcOf (Memref.whole main_arg3) c g).view.WordExact} {hdst : (dstOf (Memref.whole bV) g).view.WordExact}
    {hsem : DmaTarget.Typed (nD := nD) .hbm (.dma (vS g)) (.here (dstOf (Memref.whole bV) g) : DmaTarget nD τ sig .tc .vmem S4x1024x128 .f32)}
    {α : Type} {Q : α → sProp 𝕄} {kk : PUnit → Prog (TpuEff nD τ sig (Elt F) Λ₀ .tc) α} :
    VIn m g c ⊢ iprop((VFly m g c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcOf (Memref.whole main_arg3) c g) (.here (dstOf (Memref.whole bV) g)) (.dma (vS g)) hsrc hdst hsem) kk) Q) := by
  unfold VIn VFly
  iintro ⟨HM, ⟨%f, HD⟩, Hs⟩ Hk
  iapply (start_copy (Memref.whole main_arg3) (Memref.whole bV) g (vS g) (vC m c : Buf (Elt F) ((c : Thread nD τ).loc main_arg3)) f
    (stg c (vC m c) : Buf (Elt F) ((c : Thread nD τ).loc bV)) rfl (v_credit g)) $$ [HM HD Hs]
  · isplitl [HM]; · iexact HM
    isplitl [HD]; · iexact HD
    iexact Hs
  iexact Hk

theorem wait_k (g : Fin 2)
    {hsrc : (srcOf (Memref.whole main_arg2) c g).view.WordExact} {hdst : (dstOf (Memref.whole bK) g).view.WordExact}
    {α : Type} {Q : α → sProp 𝕄} {kk : PUnit → Prog (TpuEff nD τ sig (Elt F) Λ₀ .tc) α} :
    iprop(PF m K ∗ KFly m g c ∗ Owe c 8)
      ⊢ iprop((iprop(KOut m g c ∗ Owe c 8) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (kS g) (srcOf (Memref.whole main_arg2) c g) (dstOf (Memref.whole bK) g) hsrc hdst) kk) Q) := by
  unfold KOut KFly
  iintro ⟨#HP, HF, HO⟩ Hk
  iapply (wait_copy m K (Memref.whole main_arg2) (Memref.whole bK) g (kS g) (Nat.le_add_right 20 _)) $$ [HF HO]
  · isplitr; · iexact HP
    isplitl [HF]; · iexact HF
    iexact HO
  iintro ⟨HD, HM, Hs, HO⟩
  iapply Hk
  isplitr [HO]
  · isplitl [HM]; · iexact HM
    isplitl [HD]; · iexact HD
    iexact Hs
  iexact HO

theorem wait_v (g : Fin 2)
    {hsrc : (srcOf (Memref.whole main_arg3) c g).view.WordExact} {hdst : (dstOf (Memref.whole bV) g).view.WordExact}
    {α : Type} {Q : α → sProp 𝕄} {kk : PUnit → Prog (TpuEff nD τ sig (Elt F) Λ₀ .tc) α} :
    iprop(PF m K ∗ VFly m g c ∗ Owe c 8)
      ⊢ iprop((iprop(VOut m g c ∗ Owe c 8) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (vS g) (srcOf (Memref.whole main_arg3) c g) (dstOf (Memref.whole bV) g) hsrc hdst) kk) Q) := by
  unfold VOut VFly
  iintro ⟨#HP, HF, HO⟩ Hk
  iapply (wait_copy m K (Memref.whole main_arg3) (Memref.whole bV) g (vS g) (Nat.le_add_right 20 _)) $$ [HF HO]
  · isplitr; · iexact HP
    isplitl [HF]; · iexact HF
    iexact HO
  iintro ⟨HD, HM, Hs, HO⟩
  iapply Hk
  isplitr [HO]
  · isplitl [HM]; · iexact HM
    isplitl [HD]; · iexact HD
    iexact Hs
  iexact HO

/-! ## The parts -/

/-- The first three copies start. -/
theorem sound3 {Q : _ → sProp 𝕄} :
    iprop(KIn m 0 c ∗ VIn m 0 c ∗ KIn m 1 c)
      ⊢ iprop((∀ v2, iprop(KFly m 0 c ∗ VFly m 0 c ∗ KFly m 1 c) -∗ Q ⟨c, v2⟩)
          -∗ wp frame (wpE (defs₀ (F := F)) 𝒱₀ (c : Thread nD τ) none) Set.univ (onBufs (k0_part3 (F := F))) Q) := by
  simp only [onBufs, k0_part3_eq_skeleton]
  unfold k0_part3_skel
  simp only [Prog.lift, Prog.bind_op, Prog.bind_ret, Prog.pure_eq_ret]
  iintro ⟨HK0, HV0, HK1⟩ Hk
  rw [wp_deviceId]
  iapply (start_k m 0) $$ HK0
  iintro HK0
  iapply (start_v m 0) $$ HV0
  iintro HV0
  iapply (start_k m 1) $$ HK1
  iintro HK1
  rw [wp_ret]
  imodintro
  iapply Hk
  isplitl [HK0]; · iexact HK0
  isplitl [HV0]; · iexact HV0
  iexact HK1

/-- The device's two input windows of the launch. -/
def XIs (c : Dev nD) : sProp 𝕄 := iprop(((c : Thread nD τ).loc bX ↦{fullShare} (xC m c : Buf (Elt F) ((c : Thread nD τ).loc bX))))
def WqIs (c : Dev nD) : sProp 𝕄 := iprop(((c : Thread nD τ).loc bWq ↦{fullShare} (wqC m c : Buf (Elt F) ((c : Thread nD τ).loc bWq))))

/-- What the barrier starts from: the receive buffers to lend, and the right to signal the four partners. -/
def BarIn (c : Dev nD) : sProp 𝕄 :=
  iprop(OweB c 4 ∗ (∃ f : Buf (Elt F) ((c : Thread nD τ).loc bRs), (c : Thread nD τ).loc bRs ↦{fullShare} f)
    ∗ (∃ f : Buf (Elt F) ((c : Thread nD τ).loc bAg), (c : Thread nD τ).loc bAg ↦{fullShare} f)
    ∗ (dutyTok ER (barCell (peer (up 0) c)) 0 0 ∗ dutyTok ER (barCell (peer (up 1) c)) 0 1
      ∗ dutyTok ER (barCell (peer (up 2) c)) 0 2 ∗ dutyTok ER (barCell (peer (up 3) c)) 0 3)
    ∗ cred (tallyAt (barCell c) () 4) ∗ atPos ER (barCell c) 0 ∅ 0)
/-- What it ends with: the partners' receive buffers. -/
def BarOut (c : Dev nD) : sProp 𝕄 :=
  iprop(Owe c 8 ∗ semVal (barCell c) 0 ∗ (RsAny 0 (peer 0 c) ∗ RsAny 1 (peer 1 c) ∗ RsAny 2 (peer 2 c) ∗ RsAny 3 (peer 3 c))
    ∗ (AgAny 4 (peer 4 c) ∗ AgAny 5 (peer 5 c) ∗ AgAny 6 (peer 6 c) ∗ AgAny 7 (peer 7 c)))

/-- The last copy starts; the barrier; the activations and the query weights are loaded. -/
theorem sound4 (v2 : BitVec 32) {Q : _ → sProp 𝕄} :
    iprop(PF m K ∗ VIn m 1 c ∗ BarIn c ∗ XIs m c ∗ WqIs m c)
      ⊢ iprop((iprop(VFly m 1 c ∗ BarOut c ∗ XIs m c ∗ WqIs m c) -∗ Q ⟨k0_pay5 (xC m c), wqC m c⟩)
          -∗ wp frame (wpE (defs₀ (F := F)) 𝒱₀ (c : Thread nD τ) none) Set.univ (onBufs (k0_part4 (F := F)) c v2) Q) := by
  simp only [onBufs, k0_part4_eq_skeleton]
  unfold k0_part4_skel
  simp only [Prog.lift, Prog.bind_op, Prog.bind_ret, Prog.pure_eq_ret, semSignalWord, semWaitWord]
  unfold BarIn
  iintro ⟨#HP, HV, ⟨HO, ⟨%f, Hrs⟩, ⟨%g, Hag⟩, ⟨T0, T1, T2, T3⟩, Hcr, Hat⟩, HX, HW⟩ Hk
  iapply (start_v m 1) $$ HV
  iintro HV
  ihave Hrs := (split_rs c f) $$ Hrs
  icases Hrs with ⟨R0, R1, R2, R3⟩
  ihave Hag := (split_ag c g) $$ Hag
  icases Hag with ⟨A4, A5, A6, A7⟩
  iapply (step_signal m K c 0 _ (dev1_eq c)) $$ [HO T0 R0 A7]
  · isplitr; · iexact HP
    isplitl [HO]; · iexact HO
    isplitl [T0]; · iexact T0
    isplitl [R0]; · iexists f; iexact R0
    iexists g; iexact A7
  iintro HO
  iapply (step_signal m K c 1 _ (dev2_eq c)) $$ [HO T1 R1 A6]
  · isplitr; · iexact HP
    isplitl [HO]; · iexact HO
    isplitl [T1]; · iexact T1
    isplitl [R1]; · iexists f; iexact R1
    iexists g; iexact A6
  iintro HO
  iapply (step_signal m K c 2 _ (dev3_eq c)) $$ [HO T2 R2 A5]
  · isplitr; · iexact HP
    isplitl [HO]; · iexact HO
    isplitl [T2]; · iexact T2
    isplitl [R2]; · iexists f; iexact R2
    iexists g; iexact A5
  iintro HO
  iapply (step_signal m K c 3 _ (dev4_eq c)) $$ [HO T3 R3 A4]
  · isplitr; · iexact HP
    isplitl [HO]; · iexact HO
    isplitl [T3]; · iexact T3
    isplitl [R3]; · iexists f; iexact R3
    iexists g; iexact A4
  iintro HO
  iapply (step_bar m K c) $$ [HO Hcr Hat]
  · isplitr; · iexact HP
    isplitl [HO]; · iexact HO
    isplitl [Hcr]; · iexact Hcr
    iexact Hat
  unfold barPay
  iintro ⟨HO, Hb, ⟨R0, A7⟩, ⟨R1, A6⟩, ⟨R2, A5⟩, ⟨R3, A4⟩⟩
  unfold XIs WqIs
  have hz : (![0, 0] : Fin 2 → ℕ) = fun _ => 0 := funext fun a => by fin_cases a <;> rfl
  have hz3 : (![0, 0, 0] : Fin 3 → ℕ) = fun _ => 0 := funext fun a => by fin_cases a <;> rfl
  have ex : (Memref.whole bX).view.readAt (Elt F) (Rect.unit (s := S4x256x1024) ![0, 0, 0] S4x256x1024.size inb_S4x256x1024_S4x256x1024_0_0_0).toLoadRect
      (xC m c : Buf (Elt F) ((c : Thread nD τ).loc bX)) = xC m c := Memref.readAt_unit_zero (Elt F) bX hz3 inb_S4x256x1024_S4x256x1024_0_0_0 _
  have ew : (Memref.whole bWq).view.readAt (Elt F) (Rect.unit (s := S1024x1024) ![0, 0] S1024x1024.size inb_S1024x1024_S1024x1024_0_0).toLoadRect
      (wqC m c : Buf (Elt F) ((c : Thread nD τ).loc bWq)) = wqC m c := Memref.readAt_unit_zero (Elt F) bWq hz inb_S1024x1024_S1024x1024_0_0 _
  iapply (wp_load 𝒱₀ (c : Thread nD τ) none Set.univ (m := Memref.whole bX) (Finset.subset_univ _)) $$ HX; iintro HX
  iapply (wp_load 𝒱₀ (c : Thread nD τ) none Set.univ (m := Memref.whole bWq) (Finset.subset_univ _)) $$ HW; iintro HW
  rw [ex, ew]
  rw [wp_ret]
  imodintro
  iapply Hk
  isplitl [HV]; · iexact HV
  isplitr [HX HW]
  · unfold BarOut RsAny AgAny
    isplitl [HO]; · iexact HO
    isplitl [Hb]; · iexact Hb
    isplitl [R0 R1 R2 R3]
    · isplitl [R0]; · iexact R0
      isplitl [R1]; · iexact R1
      isplitl [R2]; · iexact R2
      iexact R3
    isplitl [A4]; · iexact A4
    isplitl [A5]; · iexact A5
    isplitl [A6]; · iexact A6
    iexact A7
  isplitl [HX]; · iexact HX
  iexact HW

/-- The queries are stored; the first three copies arrive. -/
theorem sound5 {Q : _ → sProp 𝕄} :
    iprop(PF m K ∗ (∃ f : Buf (Elt F) ((c : Thread nD τ).loc bQ), (c : Thread nD τ).loc bQ ↦{fullShare} f) ∗ (KFly m 0 c ∗ VFly m 0 c ∗ KFly m 1 c) ∗ Owe c 8)
      ⊢ iprop((∀ b, iprop(((c : Thread nD τ).loc bQ ↦{fullShare} (Qf m c : Buf (Elt F) ((c : Thread nD τ).loc bQ)))
            ∗ (KOut m 0 c ∗ VOut m 0 c ∗ KOut m 1 c) ∗ Owe c 8) -∗ Q b)
          -∗ wp frame (wpE (defs₀ (F := F)) 𝒱₀ (c : Thread nD τ) none) Set.univ (onBufs (k0_part5 (F := F)) c (k0_pay5 (xC m c)) (wqC m c)) Q) := by
  simp only [onBufs, k0_part5_eq_skeleton]
  unfold k0_part5_skel
  simp only [Prog.lift, Prog.bind_op, Prog.bind_ret, Prog.pure_eq_ret]
  iintro ⟨#HP, ⟨%f, HQ⟩, ⟨HK0, HV0, HK1⟩, HO⟩ Hk
  have hz : (![0, 0] : Fin 2 → ℕ) = fun _ => 0 := funext fun a => by fin_cases a <;> rfl
  have ew : ((Memref.whole bQ).access (Rect.unit (s := S1024x1024) ![0, 0] S1024x1024.size inb_S1024x1024_S1024x1024_0_0)).write (Elt F) f
      (k0_pay6 (k0_pay5 (xC m c)) (wqC m c)) Finset.univ = (Qf m c : Buf (Elt F) ((c : Thread nD τ).loc bQ)) :=
    Memref.write_access_unit_zero_univ (Elt F) bQ hz inb_S1024x1024_S1024x1024_0_0 f _
  iapply (wp_load 𝒱₀ (c : Thread nD τ) none Set.univ (m := Memref.whole bQ) (Finset.subset_univ _)) $$ HQ; iintro HQ
  iapply (wp_store 𝒱₀ (c : Thread nD τ) none Set.univ (m := Memref.whole bQ) (r := Rect.unit (s := S1024x1024) ![0, 0] S1024x1024.size inb_S1024x1024_S1024x1024_0_0) (Mk := Finset.univ) (Finset.subset_univ _)) $$ HQ
  rw [ew]
  iintro HQ
  iapply (wait_k m K 0) $$ [HK0 HO]
  · isplitr; · iexact HP
    isplitl [HK0]; · iexact HK0
    iexact HO
  iintro ⟨HK0, HO⟩
  iapply (wait_v m K 0) $$ [HV0 HO]
  · isplitr; · iexact HP
    isplitl [HV0]; · iexact HV0
    iexact HO
  iintro ⟨HV0, HO⟩
  iapply (wait_k m K 1) $$ [HK1 HO]
  · isplitr; · iexact HP
    isplitl [HK1]; · iexact HK1
    iexact HO
  iintro ⟨HK1, HO⟩
  rw [wp_ret]
  imodintro
  iapply Hk
  isplitl [HQ]; · iexact HQ
  isplitr [HO]
  · isplitl [HK0]; · iexact HK0
    isplitl [HV0]; · iexact HV0
    iexact HK1
  iexact HO

/-- The caches in HBM, and the staging semaphores at zero. -/
def Caches (c : Dev nD) : sProp 𝕄 :=
  iprop(((c : Thread nD τ).loc main_arg2 ↦{fullShare} (kC m c : Buf (Elt F) ((c : Thread nD τ).loc main_arg2)))
    ∗ ((c : Thread nD τ).loc main_arg3 ↦{fullShare} (vC m c : Buf (Elt F) ((c : Thread nD τ).loc main_arg3))))
def Idle (c : Dev nD) : sProp 𝕄 :=
  iprop(semVal ((c : Thread nD τ), .dma (kS 0)) 0 ∗ semVal ((c : Thread nD τ), .dma (kS 1)) 0
    ∗ semVal ((c : Thread nD τ), .dma (vS 0)) 0 ∗ semVal ((c : Thread nD τ), .dma (vS 1)) 0)
/-- The parts of the caches the copies leave alone. -/
def Rest (c : Dev nD) : sProp 𝕄 :=
  iprop(Unread (Memref.whole main_arg2) c (kC m c : Buf (Elt F) ((c : Thread nD τ).loc main_arg2))
    ∗ Unread (Memref.whole main_arg3) c (vC m c : Buf (Elt F) ((c : Thread nD τ).loc main_arg3)))

/-- Before the copies: what they start from. -/
theorem copies_in : iprop(Caches m c ∗ Idle c ∗ (∃ f : Buf (Elt F) ((c : Thread nD τ).loc bK), (c : Thread nD τ).loc bK ↦{fullShare} f)
      ∗ (∃ f : Buf (Elt F) ((c : Thread nD τ).loc bV), (c : Thread nD τ).loc bV ↦{fullShare} f))
    ⊢ iprop(KIn m 0 c ∗ VIn m 0 c ∗ KIn m 1 c ∗ VIn m 1 c ∗ Rest m c) := by
  unfold Caches Idle KIn VIn Rest
  iintro ⟨⟨HK, HV⟩, ⟨S0, S1, S2, S3⟩, ⟨%f, Hk⟩, ⟨%g, Hv⟩⟩
  ihave HK := (cut_src (Memref.whole main_arg2) c (kC m c : Buf (Elt F) ((c : Thread nD τ).loc main_arg2))).1 $$ [HK]
  · rw [View.set_whole]; iexact HK
  ihave HV := (cut_src (Memref.whole main_arg3) c (vC m c : Buf (Elt F) ((c : Thread nD τ).loc main_arg3))).1 $$ [HV]
  · rw [View.set_whole]; iexact HV
  ihave Hk := (cut_dst (Memref.whole bK) c f).1 $$ [Hk]
  · rw [View.set_whole]; iexact Hk
  ihave Hv := (cut_dst (Memref.whole bV) c g).1 $$ [Hv]
  · rw [View.set_whole]; iexact Hv
  icases HK with ⟨K0, K1, KR⟩
  icases HV with ⟨V0, V1, VR⟩
  icases Hk with ⟨k0, k1⟩
  icases Hv with ⟨v0, v1⟩
  isplitl [K0 k0 S0]
  · isplitl [K0]; · iexact K0
    isplitl [k0]; · iexists f; iexact k0
    iexact S0
  isplitl [V0 v0 S2]
  · isplitl [V0]; · iexact V0
    isplitl [v0]; · iexists g; iexact v0
    iexact S2
  isplitl [K1 k1 S1]
  · isplitl [K1]; · iexact K1
    isplitl [k1]; · iexists f; iexact k1
    iexact S1
  isplitl [V1 v1 S3]
  · isplitl [V1]; · iexact V1
    isplitl [v1]; · iexists g; iexact v1
    iexact S3
  isplitl [KR]; · iexact KR
  iexact VR

/-- After them: the caches as before, the staging buffers filled. -/
theorem copies_out : iprop(((c : Thread nD τ).loc bQ ↦{fullShare} (Qf m c : Buf (Elt F) ((c : Thread nD τ).loc bQ)))
      ∗ KOut m 0 c ∗ VOut m 0 c ∗ KOut m 1 c ∗ VOut m 1 c ∗ Rest m c)
    ⊢ iprop(Qkv m c ∗ Caches m c ∗ Idle c) := by
  unfold Caches Idle KOut VOut Rest Qkv
  iintro ⟨HQ, ⟨K0, k0, S0⟩, ⟨V0, v0, S2⟩, ⟨K1, k1, S1⟩, ⟨V1, v1, S3⟩, ⟨KR, VR⟩⟩
  ihave HK := (cut_src (Memref.whole main_arg2) c (kC m c : Buf (Elt F) ((c : Thread nD τ).loc main_arg2))).2 $$ [K0 K1 KR]
  · isplitl [K0]; · iexact K0
    isplitl [K1]; · iexact K1
    iexact KR
  ihave HV := (cut_src (Memref.whole main_arg3) c (vC m c : Buf (Elt F) ((c : Thread nD τ).loc main_arg3))).2 $$ [V0 V1 VR]
  · isplitl [V0]; · iexact V0
    isplitl [V1]; · iexact V1
    iexact VR
  ihave Hk := (cut_dst (Memref.whole bK) c (stg c (kC m c) : Buf (Elt F) ((c : Thread nD τ).loc bK))).2 $$ [k0 k1]
  · isplitl [k0]; · iexact k0
    iexact k1
  ihave Hv := (cut_dst (Memref.whole bV) c (stg c (vC m c) : Buf (Elt F) ((c : Thread nD τ).loc bV))).2 $$ [v0 v1]
  · isplitl [v0]; · iexact v0
    iexact v1
  rw [View.set_whole, View.set_whole, View.set_whole, View.set_whole]
  isplitl [HQ Hk Hv]
  · isplitl [HQ]; · iexact HQ
    isplitl [Hk]; · iexact Hk
    iexact Hv
  isplitl [HK HV]
  · isplitl [HK]; · iexact HK
    iexact HV
  isplitl [S0]; · iexact S0
  isplitl [S1]; · iexact S1
  isplitl [S2]; · iexact S2
  iexact S3

/-- The last copy arrives; the attention of the half of the rows to be sent first. -/
theorem sound6 (v2 : BitVec 32) {Q : _ → sProp 𝕄} :
    iprop(PF m K ∗ ((c : Thread nD τ).loc bQ ↦{fullShare} (Qf m c : Buf (Elt F) ((c : Thread nD τ).loc bQ)))
        ∗ (KOut m 0 c ∗ VOut m 0 c ∗ KOut m 1 c) ∗ VFly m 1 c ∗ Rest m c
        ∗ (∃ f : Buf (Elt F) ((c : Thread nD τ).loc bAttn), (c : Thread nD τ).loc bAttn ↦{fullShare} f) ∗ Owe c 8)
      ⊢ iprop((∀ b, iprop(AttIs m c (blk (sb 0 c) 4) ∗ Qkv m c ∗ Caches m c ∗ Idle c ∗ Owe c 8) -∗ Q b)
          -∗ wp frame (wpE (defs₀ (F := F)) 𝒱₀ (c : Thread nD τ) none) Set.univ (onBufs (k0_part6 (F := F)) c v2) Q) := by
  simp only [onBufs, k0_part6_eq_skeleton]
  unfold k0_part6_skel
  simp only [Prog.lift, Prog.bind_op, Prog.bind_ret, Prog.pure_eq_ret]
  iintro ⟨#HP, HQ, ⟨HK0, HV0, HK1⟩, HV1, HR, ⟨%f, Ha⟩, HO⟩ Hk
  iapply (wait_v m K 1) $$ [HV1 HO]
  · isplitr; · iexact HP
    isplitl [HV1]; · iexact HV1
    iexact HO
  iintro ⟨HV1, HO⟩
  ihave H := (copies_out m) $$ [HQ HK0 HV0 HK1 HV1 HR]
  · isplitl [HQ]; · iexact HQ
    isplitl [HK0]; · iexact HK0
    isplitl [HV0]; · iexact HV0
    isplitl [HK1]; · iexact HK1
    isplitl [HV1]; · iexact HV1
    iexact HR
  icases H with ⟨Hq, HC, HI⟩
  iapply (loop1 m c v2) $$ [Ha Hq]
  · isplitl [Ha]
    · unfold AttIs
      iexists f
      isplitr
      · ipureintro
        intro i h
        exact absurd h.2 (Nat.not_lt_zero _)
      iexact Ha
    iexact Hq
  iintro ⟨Ha, Hq⟩
  rw [wp_ret]
  imodintro
  iapply Hk
  isplitl [Ha]; · iexact Ha
  isplitl [Hq]; · iexact Hq
  isplitl [HC]; · iexact HC
  isplitl [HI]; · iexact HI
  iexact HO

end Cert.KProof

end
-- ==== Proof.Gather.lean ====
/-
# `Gather`: the all-gather's parts of the kernel
-/
module

public import proofs.«01_k».proof.Proof.Phases

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Parts
variable (K : Dev nD × CI → ℕ) (c : Dev nD)

/-- The result's rows after an all-gather step, as the next step's. -/
theorem gathered (j : Fin 8) (h : 4 ≤ j.val) (h' : j.val < 7) :
    iprop(∃ f : Buf (Elt F) ((c : Thread nD τ).loc bOut), ⌜On (R := 1024) f (X m (j.val + 1) c) (kb j c) (rws j) ∧ On (R := 1024) f (X m (j.val + 1) c) (sb j c) (rws j)⌝
      ∗ ((c : Thread nD τ).loc bOut ↦{fullShare} f) : sProp 𝕄)
      ⊢ OutOn m (j.val + 1) (sb ⟨j + 1, by omega⟩ c) (rws ⟨j + 1, by omega⟩) c := by
  unfold OutOn
  iintro ⟨%f, %hf, H⟩
  iexists f
  isplitr; · ipureintro; exact ag_next m c j h h' hf.1 hf.2
  iexact H

/-- One all-gather transfer — sent, received, stored — and the next one's rows filled. -/
theorem ag_step_next (j : Fin 8) (hj : 4 ≤ j.val) (hj' : j.val < 7) (j' : Fin 8) (hn' : j' = ⟨j + 1, by omega⟩) (n : Dev nD) (hn : n = peer j c)
    {off off' : Fin 2 → ℕ} (ho : off = ![kb j c, 0]) {inb} {hl} {hl'} {hx} {hm}
    {pay : ((slotRect j).shape.Idx → F .bf16) → (⟨2, ![rws j, 1024]⟩ : Shape).Idx → F .f32} (hp : ∀ v, pay v = fun i => xt (v i))
    (ho' : off' = ![sb j' c, 0]) {inb₂} {hl₂} {hl₂'} {hx₂} {hm₂}
    {pay' : ((⟨2, ![rws j', 1024]⟩ : Shape).Idx → F .f32) → (slotRect j').shape.Idx → F .bf16} (hp' : ∀ v, pay' v = fun i => tr (v i))
    {hsc : (agM j : Memref sig (Dev.tc n : Thread nD τ).2.kind .vmem _ .bf16).view.ref.isScScratch = false}
    {hsrc : (sendM j).view.WordExact} {hdst : (agM j).view.WordExact}
    {hsem : DmaTarget.Typed .vmem (.dma (recvS j)) (.remote (Dev.tc n : Thread nD τ) (agM j : Memref sig .tc .vmem _ .bf16) (.dma (sendS j)) hsc)}
    {hsrc' : (sendM j).view.WordExact} {hdst' : (agM j).view.WordExact}
    {α : Type} {Q : α → sProp 𝕄} {kk} :
    iprop(PF m K ∗ Filled m j c ∗ AgAny j (peer j c) ∗ toks j c ∗ rpos j c ∗ Owe c (8 - j.val) ∗ OutOn m j.val (sb j c) (rws j) c ∗ (∃ f, sendPts j' c f))
      ⊢ iprop((iprop(Owe c (7 - j.val) ∗ sent? j c ∗ semVal (recvCell j c) 0 ∗ AgAny j c
                ∗ OutOn m (j.val + 1) (sb j' c) (rws j') c ∗ Filled m j' c)
              -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendM j) (.remote (Dev.tc n : Thread nD τ) (agM j) (.dma (sendS j)) hsc) (.dma (recvS j)) hsrc hdst hsem) fun _ =>
                .op (.waitDma2 (recvS j) (sendM j) (agM j) hsrc' hdst') fun _ =>
                .op (.load (cs := .vmem) (s := S960x1024) (e := .bf16) (Memref.whole bAg) (slotRect j).toLoadRect hl) fun (v : (slotRect j).shape.Idx → F .bf16) =>
                .op (.load (cs := .vmem) (s := S1024x1024) (e := .f32) (Memref.whole bOut) (Rect.unit (s := S1024x1024) off ![rws j, 1024] inb).toLoadRect hl') fun _ =>
                .op (.store (Memref.whole bOut) (Rect.unit (s := S1024x1024) off ![rws j, 1024] inb) (pay v) Finset.univ hx hm) fun _ =>
                .op (.load (cs := .vmem) (s := S1024x1024) (e := .f32) (Memref.whole bOut) (Rect.unit (s := S1024x1024) off' ![rws j', 1024] inb₂).toLoadRect hl₂) fun (v : (⟨2, ![rws j', 1024]⟩ : Shape).Idx → F .f32) =>
                .op (.load (cs := .vmem) (s := S960x1024) (e := .bf16) (Memref.whole bSend) (slotRect j').toLoadRect hl₂') fun _ =>
                .op (.store (Memref.whole bSend) (slotRect j') (pay' v) Finset.univ hx₂ hm₂) kk
                  : Prog (TpuEff nD τ sig (Elt F) Λ₀ .tc) α) Q) := by
  subst hn'
  iintro ⟨#HP, Hf, Hin, Ht, Hr, HO, Ho, Hs⟩ Hk
  iapply (ag_round m K c j hj n hn (ag_apart c j hj) ho hp) $$ [Hf Hin Ht Hr HO Ho]
  · isplitr; · iexact HP
    isplitl [Hf]; · iexact Hf
    isplitl [Hin]; · iexact Hin
    isplitl [Ht]; · iexact Ht
    isplitl [Hr]; · iexact Hr
    isplitl [HO]; · iexact HO
    iexact Ho
  iintro ⟨HO, Hc, Hz, Hin, Ho⟩
  ihave Ho := (gathered m c j hj hj') $$ Ho
  iapply (ag_fill m c _ ho' hp') $$ [Ho Hs]
  · isplitl [Ho]; · iexact Ho
    iexact Hs
  iintro ⟨Ho, Hf⟩
  iapply Hk
  isplitl [HO]; · iexact HO
  isplitl [Hc]; · iexact Hc
  isplitl [Hz]; · iexact Hz
  isplitl [Hin]; · iexact Hin
  isplitl [Ho]; · iexact Ho
  iexact Hf

/-- Transfer 4: sent, received; transfer 5's rows filled. -/
theorem sound14 (v2 v95 v305 : BitVec 32) {Q : _ → sProp 𝕄} :
    iprop(PF m K ∗ Filled m 4 c ∗ AgAny 4 (peer 4 c) ∗ toks 4 c ∗ rpos 4 c ∗ Owe c 4 ∗ OutOn m 4 (sb 4 c) (rws 4) c ∗ (∃ f, sendPts 5 c f))
      ⊢ iprop((∀ r, iprop(Owe c 3 ∗ sent? 4 c ∗ semVal (recvCell 4 c) 0 ∗ AgAny 4 c ∗ OutOn m 5 (sb 5 c) (rws 5) c ∗ Filled m 5 c) -∗ Q r)
          -∗ wp frame (wpE (defs₀ (F := F)) 𝒱₀ (c : Thread nD τ) none) Set.univ (onBufs (k0_part14 (F := F)) c v2 v95 v305) Q) := by
  simp only [onBufs, k0_part14_eq_skeleton]
  unfold k0_part14_skel
  simp only [Prog.lift, Prog.bind_op, Prog.bind_ret, Prog.pure_eq_ret]
  iintro ⟨#HP, Hf, Hin, Ht, Hr, HO, Ho, Hs⟩ Hk
  iapply (ag_step_next m K c 4 (by decide) (by decide) 5 rfl _ (dev9_eq c) (off15_eq c) pay21_eq (off16_eq c) pay22_eq) $$ [Hf Hin Ht Hr HO Ho Hs]
  · isplitr; · iexact HP
    isplitl [Hf]; · iexact Hf
    isplitl [Hin]; · iexact Hin
    isplitl [Ht]; · iexact Ht
    isplitl [Hr]; · iexact Hr
    isplitl [HO]; · iexact HO
    isplitl [Ho]; · iexact Ho
    iexact Hs
  iintro H
  rw [wp_ret]
  imodintro
  iapply Hk
  iexact H

/-- Transfer 5, and transfer 6's rows. -/
theorem sound15 (v2 v334 v335 : BitVec 32) {Q : _ → sProp 𝕄} :
    iprop(PF m K ∗ Filled m 5 c ∗ AgAny 5 (peer 5 c) ∗ toks 5 c ∗ rpos 5 c ∗ Owe c 3 ∗ OutOn m 5 (sb 5 c) (rws 5) c ∗ (∃ f, sendPts 6 c f))
      ⊢ iprop((∀ r, iprop(Owe c 2 ∗ sent? 5 c ∗ semVal (recvCell 5 c) 0 ∗ AgAny 5 c ∗ OutOn m 6 (sb 6 c) (rws 6) c ∗ Filled m 6 c) -∗ Q r)
          -∗ wp frame (wpE (defs₀ (F := F)) 𝒱₀ (c : Thread nD τ) none) Set.univ (onBufs (k0_part15 (F := F)) c v2 v334 v335) Q) := by
  simp only [onBufs, k0_part15_eq_skeleton]
  unfold k0_part15_skel
  simp only [Prog.lift, Prog.bind_op, Prog.bind_ret, Prog.pure_eq_ret]
  iintro ⟨#HP, Hf, Hin, Ht, Hr, HO, Ho, Hs⟩ Hk
  iapply (ag_step_next m K c 5 (by decide) (by decide) 6 rfl _ (dev10_eq c) (off17_eq c) pay23_eq (off18_eq c) pay24_eq) $$ [Hf Hin Ht Hr HO Ho Hs]
  · isplitr; · iexact HP
    isplitl [Hf]; · iexact Hf
    isplitl [Hin]; · iexact Hin
    isplitl [Ht]; · iexact Ht
    isplitl [Hr]; · iexact Hr
    isplitl [HO]; · iexact HO
    isplitl [Ho]; · iexact Ho
    iexact Hs
  iintro H
  rw [wp_ret]
  imodintro
  iapply Hk
  iexact H

/-- Transfer 6, and transfer 7's rows. -/
theorem sound16 (v2 v364 v365 : BitVec 32) {Q : _ → sProp 𝕄} :
    iprop(PF m K ∗ Filled m 6 c ∗ AgAny 6 (peer 6 c) ∗ toks 6 c ∗ rpos 6 c ∗ Owe c 2 ∗ OutOn m 6 (sb 6 c) (rws 6) c ∗ (∃ f, sendPts 7 c f))
      ⊢ iprop((∀ r, iprop(Owe c 1 ∗ sent? 6 c ∗ semVal (recvCell 6 c) 0 ∗ AgAny 6 c ∗ OutOn m 7 (sb 7 c) (rws 7) c ∗ Filled m 7 c) -∗ Q r)
          -∗ wp frame (wpE (defs₀ (F := F)) 𝒱₀ (c : Thread nD τ) none) Set.univ (onBufs (k0_part16 (F := F)) c v2 v364 v365) Q) := by
  simp only [onBufs, k0_part16_eq_skeleton]
  unfold k0_part16_skel
  simp only [Prog.lift, Prog.bind_op, Prog.bind_ret, Prog.pure_eq_ret]
  iintro ⟨#HP, Hf, Hin, Ht, Hr, HO, Ho, Hs⟩ Hk
  iapply (ag_step_next m K c 6 (by decide) (by decide) 7 rfl _ (dev11_eq c) (off19_eq c) pay25_eq (off20_eq c) pay26_eq) $$ [Hf Hin Ht Hr HO Ho Hs]
  · isplitr; · iexact HP
    isplitl [Hf]; · iexact Hf
    isplitl [Hin]; · iexact Hin
    isplitl [Ht]; · iexact Ht
    isplitl [Hr]; · iexact Hr
    isplitl [HO]; · iexact HO
    isplitl [Ho]; · iexact Ho
    iexact Hs
  iintro H
  rw [wp_ret]
  imodintro
  iapply Hk
  iexact H

/-- The reduce-scatter's sends waited for; transfer 4's rows filled, in a send buffer the sends have read. -/
theorem sound13 (v2 v95 : BitVec 32) {Q : _ → sProp 𝕄} :
    iprop(PF m K ∗ (spos 0 c ∗ sent? 0 c) ∗ (spos 1 c ∗ sent? 1 c) ∗ (spos 2 c ∗ sent? 2 c) ∗ (spos 3 c ∗ sent? 3 c) ∗ Owe c 4
        ∗ OutOn m 4 (sb 4 c) (rws 4) c)
      ⊢ iprop((∀ r, iprop(Owe c 4 ∗ OutOn m 4 (sb 4 c) (rws 4) c ∗ Filled m 4 c ∗ (∃ f, sendPts 5 c f) ∗ (∃ f, sendPts 6 c f) ∗ (∃ f, sendPts 7 c f)
              ∗ semVal (sendCell 0 c) 0 ∗ semVal (sendCell 1 c) 0 ∗ semVal (sendCell 2 c) 0 ∗ semVal (sendCell 3 c) 0) -∗ Q r)
          -∗ wp frame (wpE (defs₀ (F := F)) 𝒱₀ (c : Thread nD τ) none) Set.univ (onBufs (k0_part13 (F := F)) c v2 v95) Q) := by
  simp only [onBufs, k0_part13_eq_skeleton]
  unfold k0_part13_skel
  simp only [Prog.lift, Prog.bind_op, Prog.bind_ret, Prog.pure_eq_ret]
  iintro ⟨#HP, ⟨Hp0, Hs0⟩, ⟨Hp1, Hs1⟩, ⟨Hp2, Hs2⟩, ⟨Hp3, Hs3⟩, HO, Ho⟩ Hk
  iapply (step_sent m K c 0 4 (by decide) rfl) $$ [Hp0 Hs0 HO]
  · isplitr; · iexact HP
    isplitl [Hp0]; · iexact Hp0
    isplitl [Hs0] <;> iassumption
  iintro ⟨Hb0, Hz0, HO⟩
  iapply (step_sent m K c 1 4 (by decide) rfl) $$ [Hp1 Hs1 HO]
  · isplitr; · iexact HP
    isplitl [Hp1]; · iexact Hp1
    isplitl [Hs1] <;> iassumption
  iintro ⟨Hb1, Hz1, HO⟩
  iapply (step_sent m K c 2 4 (by decide) rfl) $$ [Hp2 Hs2 HO]
  · isplitr; · iexact HP
    isplitl [Hp2]; · iexact Hp2
    isplitl [Hs2] <;> iassumption
  iintro ⟨Hb2, Hz2, HO⟩
  iapply (step_sent m K c 3 4 (by decide) rfl) $$ [Hp3 Hs3 HO]
  · isplitr; · iexact HP
    isplitl [Hp3]; · iexact Hp3
    isplitl [Hs3] <;> iassumption
  iintro ⟨Hb3, Hz3, HO⟩
  ihave Hb := (join_send_rs c) $$ [Hb0 Hb1 Hb2 Hb3]
  · isplitl [Hb0]; · iexact Hb0
    isplitl [Hb1]; · iexact Hb1
    isplitl [Hb2] <;> iassumption
  icases Hb with ⟨%f, Hb⟩
  ihave Hb := (split_send_ag c f) $$ Hb
  icases Hb with ⟨Hb4, Hb5, Hb6, Hb7⟩
  iapply (ag_fill m c 4 (off14_eq c) pay20_eq) $$ [Ho Hb4]
  · isplitl [Ho]; · iexact Ho
    iexists _; iexact Hb4
  iintro ⟨Ho, Hf⟩
  rw [wp_ret]
  imodintro
  iapply Hk
  isplitl [HO]; · iexact HO
  isplitl [Ho]; · iexact Ho
  isplitl [Hf]; · iexact Hf
  isplitl [Hb5]; · iexists _; iexact Hb5
  isplitl [Hb6]; · iexists _; iexact Hb6
  isplitl [Hb7]; · iexists _; iexact Hb7
  isplitl [Hz0]; · iexact Hz0
  isplitl [Hz1]; · iexact Hz1
  isplitl [Hz2] <;> iassumption

/-- Transfer 7, which completes the result; the sends of 4 and 5 waited for. -/
theorem sound17 (v394 v395 : BitVec 32) {Q : _ → sProp 𝕄} :
    iprop(PF m K ∗ Filled m 7 c ∗ AgAny 7 (peer 7 c) ∗ toks 7 c ∗ rpos 7 c ∗ Owe c 1 ∗ OutOn m 7 (sb 7 c) (rws 7) c
        ∗ (spos 4 c ∗ sent? 4 c) ∗ (spos 5 c ∗ sent? 5 c))
      ⊢ iprop((∀ r, iprop(Owe c 0 ∗ sent? 7 c ∗ semVal (recvCell 7 c) 0 ∗ AgAny 7 c ∗ ((c : Thread nD τ).loc bOut ↦{fullShare} X m 8 c)
              ∗ (sendPay 4 c ∗ semVal (sendCell 4 c) 0) ∗ (sendPay 5 c ∗ semVal (sendCell 5 c) 0)) -∗ Q r)
          -∗ wp frame (wpE (defs₀ (F := F)) 𝒱₀ (c : Thread nD τ) none) Set.univ (onBufs (k0_part17 (F := F)) c v394 v395) Q) := by
  simp only [onBufs, k0_part17_eq_skeleton]
  unfold k0_part17_skel
  simp only [Prog.lift, Prog.bind_op, Prog.bind_ret, Prog.pure_eq_ret]
  iintro ⟨#HP, Hf, Hin, Ht, Hr, HO, Ho, ⟨Hp4, Hs4⟩, ⟨Hp5, Hs5⟩⟩ Hk
  iapply (ag_round m K c 7 (by decide) _ (dev12_eq c) (ag_apart c 7 (by decide)) (off21_eq c) pay27_eq) $$ [Hf Hin Ht Hr HO Ho]
  · isplitr; · iexact HP
    isplitl [Hf]; · iexact Hf
    isplitl [Hin]; · iexact Hin
    isplitl [Ht]; · iexact Ht
    isplitl [Hr]; · iexact Hr
    isplitl [HO]; · iexact HO
    iexact Ho
  iintro ⟨HO, Hc, Hz, Hin, ⟨%f, %hf, Ho⟩⟩
  obtain rfl := ag_last m c hf.1 hf.2
  iapply (step_sent m K c 4 0 (by decide) rfl) $$ [Hp4 Hs4 HO]
  · isplitr; · iexact HP
    isplitl [Hp4]; · iexact Hp4
    isplitl [Hs4]; · iexact Hs4
    iexact HO
  iintro ⟨Hb4, Hz4, HO⟩
  iapply (step_sent m K c 5 0 (by decide) rfl) $$ [Hp5 Hs5 HO]
  · isplitr; · iexact HP
    isplitl [Hp5]; · iexact Hp5
    isplitl [Hs5] <;> iassumption
  iintro ⟨Hb5, Hz5, HO⟩
  rw [wp_ret]
  imodintro
  iapply Hk
  isplitl [HO]; · iexact HO
  isplitl [Hc]; · iexact Hc
  isplitl [Hz]; · iexact Hz
  isplitl [Hin]; · iexact Hin
  isplitl [Ho]; · iexact Ho
  isplitl [Hb4 Hz4]; · isplitl [Hb4] <;> iassumption
  isplitl [Hb5] <;> iassumption

end Parts

end Cert.KProof

end
-- ==== Proof.Body.lean ====
/-
# `Body`: the kernel's body, its parts in order
-/
module

public import proofs.«01_k».proof.Proof.Loads
public import proofs.«01_k».proof.Proof.Gather

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- The kernel's scratch buffers, at anything. -/
def Scratch (c : Dev nD) : sProp 𝕄 :=
  iprop((∃ f : Buf (Elt F) ((c : Thread nD τ).loc bQ), (c : Thread nD τ).loc bQ ↦{fullShare} f)
    ∗ (∃ f : Buf (Elt F) ((c : Thread nD τ).loc bAttn), (c : Thread nD τ).loc bAttn ↦{fullShare} f)
    ∗ (∃ f : Buf (Elt F) ((c : Thread nD τ).loc bPart), (c : Thread nD τ).loc bPart ↦{fullShare} f)
    ∗ (∃ f : Buf (Elt F) ((c : Thread nD τ).loc bSend), (c : Thread nD τ).loc bSend ↦{fullShare} f)
    ∗ (∃ f : Buf (Elt F) ((c : Thread nD τ).loc bRs), (c : Thread nD τ).loc bRs ↦{fullShare} f)
    ∗ (∃ f : Buf (Elt F) ((c : Thread nD τ).loc bAg), (c : Thread nD τ).loc bAg ↦{fullShare} f)
    ∗ (∃ f : Buf (Elt F) ((c : Thread nD τ).loc bK), (c : Thread nD τ).loc bK ↦{fullShare} f)
    ∗ (∃ f : Buf (Elt F) ((c : Thread nD τ).loc bV), (c : Thread nD τ).loc bV ↦{fullShare} f))

/-- The right to signal the four partners, and what the barrier's wait takes. -/
def BarGhost (c : Dev nD) : sProp 𝕄 :=
  iprop((dutyTok ER (barCell (peer (up 0) c)) 0 0 ∗ dutyTok ER (barCell (peer (up 1) c)) 0 1
      ∗ dutyTok ER (barCell (peer (up 2) c)) 0 2 ∗ dutyTok ER (barCell (peer (up 3) c)) 0 3)
    ∗ cred (tallyAt (barCell c) () 4) ∗ atPos ER (barCell c) 0 ∅ 0)

/-- What transfer `j` takes in all, -/
def Ride (j : Fin 8) (c : Dev nD) : sProp 𝕄 := iprop(toks j c ∗ rpos j c ∗ spos j c)
/-- and the two semaphores it leaves at zero. -/
def Done (j : Fin 8) (c : Dev nD) : sProp 𝕄 := iprop(semVal (sendCell j c) 0 ∗ semVal (recvCell j c) 0)

/-- What a device's run starts from: its windows, its scratch, its caches, its semaphores and the right to its steps; -/
def BodyIn (c : Dev nD) : sProp 𝕄 :=
  iprop(PF m K ∗ OweB c 4 ∗ (XIs m c ∗ WqIs m c ∗ WoIs m c ∗ (∃ f : Buf (Elt F) ((c : Thread nD τ).loc bOut), (c : Thread nD τ).loc bOut ↦{fullShare} f))
    ∗ Caches m c ∗ Idle c ∗ Scratch c ∗ BarGhost c
    ∗ (Ride 0 c ∗ Ride 1 c ∗ Ride 2 c ∗ Ride 3 c ∗ Ride 4 c ∗ Ride 5 c ∗ Ride 6 c ∗ Ride 7 c))
/-- and what it ends with: the result in its window, everything else as it was, all semaphores at zero. -/
def BodyOut (c : Dev nD) : sProp 𝕄 :=
  iprop(Owe c 0 ∗ (XIs m c ∗ WqIs m c ∗ WoIs m c ∗ ((c : Thread nD τ).loc bOut ↦{fullShare} (X m 8 c : Buf (Elt F) ((c : Thread nD τ).loc bOut))))
    ∗ Caches m c ∗ Idle c ∗ Scratch c ∗ semVal (barCell c) 0
    ∗ (Done 0 c ∗ Done 1 c ∗ Done 2 c ∗ Done 3 c ∗ Done 4 c ∗ Done 5 c ∗ Done 6 c ∗ Done 7 c))

/-- The body runs from the one to the other. -/
theorem sound_body (c : Dev nD) (Kt : PUnit → sProp 𝕄) :
    iprop(BodyIn m K c ∗ (BodyOut m c -∗ Kt ⟨⟩))
      ⊢ wp frame (wpE (defs₀ (F := F)) 𝒱₀ (c : Thread nD τ) none) Set.univ (onBufs (cc0_body (F := F))) Kt := by
  simp only [onBufs, cc0_body_eq_skeleton]
  unfold cc0_body_skel
  simp only [Prog.lift, Prog.bind_op, Prog.bind_ret, Prog.pure_eq_ret, wp_bind]
  unfold BodyIn Scratch BarGhost Ride
  iintro ⟨⟨#HP, HO, ⟨HX, HWq, HWo, HOut⟩, HC, HI, ⟨bQ, bA, bP, bS, bR, bG, bK, bV⟩, ⟨HT, Hcr, Hat⟩,
    ⟨⟨t0, r0, s0⟩, ⟨t1, r1, s1⟩, ⟨t2, r2, s2⟩, ⟨t3, r3, s3⟩, ⟨t4, r4, s4⟩, ⟨t5, r5, s5⟩, ⟨t6, r6, s6⟩, ⟨t7, r7, s7⟩⟩⟩, HEnd⟩
  ihave H := (copies_in m) $$ [HC HI bK bV]
  · isplitl [HC]; · iexact HC
    isplitl [HI]; · iexact HI
    isplitl [bK]; · iexact bK
    iexact bV
  icases H with ⟨K0, V0, K1, V1, HR⟩
  iapply (sound3 m) $$ [K0 V0 K1]
  · isplitl [K0]; · iexact K0
    isplitl [V0]; · iexact V0
    iexact K1
  iintro %v2 ⟨K0, V0, K1⟩
  iapply (sound4 m K v2) $$ [V1 HO bR bG HT Hcr Hat HX HWq]
  · isplitr; · iexact HP
    isplitl [V1]; · iexact V1
    isplitr [HX HWq]
    · unfold BarIn
      isplitl [HO]; · iexact HO
      isplitl [bR]; · iexact bR
      isplitl [bG]; · iexact bG
      isplitl [HT]; · iexact HT
      isplitl [Hcr]; · iexact Hcr
      iexact Hat
    isplitl [HX]; · iexact HX
    iexact HWq
  iintro ⟨V1, HB, HX, HWq⟩
  unfold BarOut
  icases HB with ⟨HO, HBar, ⟨R0, R1, R2, R3⟩, ⟨G4, G5, G6, G7⟩⟩
  iapply (sound5 m K) $$ [bQ K0 V0 K1 HO]
  · isplitr; · iexact HP
    isplitl [bQ]; · iexact bQ
    isplitr [HO]
    · isplitl [K0]; · iexact K0
      isplitl [V0]; · iexact V0
      iexact K1
    iexact HO
  iintro %u ⟨HQ, HKV, HO⟩
  iapply (sound6 m K v2) $$ [HQ HKV V1 HR bA HO]
  · isplitr; · iexact HP
    isplitl [HQ]; · iexact HQ
    isplitl [HKV]; · iexact HKV
    isplitl [V1]; · iexact V1
    isplitl [HR]; · iexact HR
    isplitl [bA]; · iexact bA
    iexact HO
  iintro %w ⟨HA, HQ, HC, HI, HO⟩
  obtain ⟨v95, v98, v100, v102, v103⟩ := w
  icases bS with ⟨%fs, bS⟩
  ihave bS := (split_send_rs c fs) $$ bS
  icases bS with ⟨S0, S1, S2, S3⟩
  iapply (sound7 m K c v2 v100 v102 v103) $$ [HA HQ HWo bP R0 t0 S0 HO]
  · isplitr; · iexact HP
    isplitl [HA]; · iexact HA
    isplitl [HQ]; · iexact HQ
    isplitl [HWo]; · iexact HWo
    isplitl [bP]; · unfold PartAny; iexact bP
    isplitr [HO]
    · unfold ToSend
      isplitl [R0]; · iexact R0
      isplitl [t0]; · iexact t0
      iexists fs; iexact S0
    iexact HO
  iintro %v124 ⟨HA, HQ, HWo, bP, e0, HO⟩
  iapply (sound8 m K c v95 v98 v103 v124) $$ [HA HWo bP r0 HO]
  · isplitr; · iexact HP
    isplitl [HA]; · iexact HA
    isplitl [HWo]; · iexact HWo
    isplitl [bP]; · iexact bP
    isplitl [r0]; · iexact r0
    iexact HO
  iintro %w ⟨HA, HWo, bP, z0, R0, HO⟩
  obtain ⟨v166, v167, v4⟩ := w
  iapply (sound9 m K c v2 v98 v166 v167 v4) $$ [R1 t1 S1 r1 HO bP]
  · isplitr; · iexact HP
    isplitl [R1 t1 S1]
    · unfold ToSend
      isplitl [R1]; · iexact R1
      isplitl [t1]; · iexact t1
      iexists fs; iexact S1
    isplitl [r1]; · iexact r1
    isplitl [HO]; · iexact HO
    iexact bP
  iintro %v198 ⟨HO, e1, z1, R1, bP⟩
  iapply (sound10 m K c v2 v95 v166 v198) $$ [R2 t2 S2 HO bP]
  · isplitr; · iexact HP
    isplitl [R2 t2 S2]
    · unfold ToSend
      isplitl [R2]; · iexact R2
      isplitl [t2]; · iexact t2
      iexists fs; iexact S2
    isplitl [HO]; · iexact HO
    iexact bP
  iintro %v206 ⟨HO, e2, bP⟩
  iapply (sound11 m K c v2 v95 v206) $$ [r2 HO bP S3]
  · isplitr; · iexact HP
    isplitl [r2]; · iexact r2
    isplitl [HO]; · iexact HO
    isplitl [bP]; · iexact bP
    iexists fs; iexact S3
  iintro %w ⟨HO, z2, R2, bP, S3⟩
  obtain ⟨v246, v250⟩ := w
  iapply (sound12 m K c v95 v246 v250) $$ [S3 R3 t3 r3 HO bP HOut]
  · isplitr; · iexact HP
    isplitl [S3]; · iexact S3
    isplitl [R3]; · iexact R3
    isplitl [t3]; · iexact t3
    isplitl [r3]; · iexact r3
    isplitl [HO]; · iexact HO
    isplitl [bP]; · iexact bP
    iexact HOut
  iintro %u ⟨HO, e3, z3, R3, bP, HOut⟩
  iapply (sound13 m K c v2 v95) $$ [s0 e0 s1 e1 s2 e2 s3 e3 HO HOut]
  · isplitr; · iexact HP
    isplitl [s0 e0]; · isplitl [s0]; · iexact s0
                       iexact e0
    isplitl [s1 e1]; · isplitl [s1]; · iexact s1
                       iexact e1
    isplitl [s2 e2]; · isplitl [s2]; · iexact s2
                       iexact e2
    isplitl [s3 e3]; · isplitl [s3]; · iexact s3
                       iexact e3
    isplitl [HO]; · iexact HO
    iexact HOut
  iintro %v305 ⟨HO, HOut, S4, S5, S6, S7, y0, y1, y2, y3⟩
  iapply (sound14 m K c v2 v95 v305) $$ [S4 G4 t4 r4 HO HOut S5]
  · isplitr; · iexact HP
    isplitl [S4]; · iexact S4
    isplitl [G4]; · iexact G4
    isplitl [t4]; · iexact t4
    isplitl [r4]; · iexact r4
    isplitl [HO]; · iexact HO
    isplitl [HOut]; · iexact HOut
    iexact S5
  iintro %w ⟨HO, e4, z4, G4, HOut, S5⟩
  obtain ⟨v334, v335⟩ := w
  iapply (sound15 m K c v2 v334 v335) $$ [S5 G5 t5 r5 HO HOut S6]
  · isplitr; · iexact HP
    isplitl [S5]; · iexact S5
    isplitl [G5]; · iexact G5
    isplitl [t5]; · iexact t5
    isplitl [r5]; · iexact r5
    isplitl [HO]; · iexact HO
    isplitl [HOut]; · iexact HOut
    iexact S6
  iintro %w ⟨HO, e5, z5, G5, HOut, S6⟩
  obtain ⟨v364, v365⟩ := w
  iapply (sound16 m K c v2 v364 v365) $$ [S6 G6 t6 r6 HO HOut S7]
  · isplitr; · iexact HP
    isplitl [S6]; · iexact S6
    isplitl [G6]; · iexact G6
    isplitl [t6]; · iexact t6
    isplitl [r6]; · iexact r6
    isplitl [HO]; · iexact HO
    isplitl [HOut]; · iexact HOut
    iexact S7
  iintro %w ⟨HO, e6, z6, G6, HOut, S7⟩
  obtain ⟨v394, v395⟩ := w
  iapply (sound17 m K c v394 v395) $$ [S7 G7 t7 r7 HO HOut s4 e4 s5 e5]
  · isplitr; · iexact HP
    isplitl [S7]; · iexact S7
    isplitl [G7]; · iexact G7
    isplitl [t7]; · iexact t7
    isplitl [r7]; · iexact r7
    isplitl [HO]; · iexact HO
    isplitl [HOut]; · iexact HOut
    isplitl [s4 e4]; · isplitl [s4]; · iexact s4
                       iexact e4
    isplitl [s5]; · iexact s5
    iexact e5
  iintro %u' ⟨HO, e7, z7, G7, HOut, ⟨b4, y4⟩, ⟨b5, y5⟩⟩
  iapply (step_sent m K c 6 0 (by decide) rfl) $$ [s6 e6 HO]
  · isplitr; · iexact HP
    isplitl [s6]; · iexact s6
    isplitl [e6]; · iexact e6
    iexact HO
  iintro ⟨b6, y6, HO⟩
  iapply (step_sent m K c 7 0 (by decide) rfl) $$ [s7 e7 HO]
  · isplitr; · iexact HP
    isplitl [s7]; · iexact s7
    isplitl [e7]; · iexact e7
    iexact HO
  iintro ⟨b7, y7, HO⟩
  rw [wp_ret]
  imodintro
  iapply HEnd
  unfold BodyOut Scratch Done
  isplitl [HO]; · iexact HO
  isplitl [HX HWq HWo HOut]
  · isplitl [HX]; · iexact HX
    isplitl [HWq]; · iexact HWq
    isplitl [HWo]; · iexact HWo
    iexact HOut
  isplitl [HC]; · iexact HC
  isplitl [HI]; · iexact HI
  isplitl [HQ HA bP b4 b5 b6 b7 R0 R1 R2 R3 G4 G5 G6 G7]
  · unfold Qkv AttIs RsAny AgAny
    icases HQ with ⟨HQ, Hk, Hv⟩
    icases HA with ⟨%fa, -, HA⟩
    icases R0 with ⟨%f0, R0⟩
    icases R1 with ⟨%f1, R1⟩
    icases R2 with ⟨%f2, R2⟩
    icases R3 with ⟨%f3, R3⟩
    icases G4 with ⟨%f4, G4⟩
    icases G5 with ⟨%f5, G5⟩
    icases G6 with ⟨%f6, G6⟩
    icases G7 with ⟨%f7, G7⟩
    isplitl [HQ]; · iexists _; iexact HQ
    isplitl [HA]; · iexists fa; iexact HA
    isplitl [bP]; · iexact bP
    isplitl [b4 b5 b6 b7]
    · iapply (join_send_ag c)
      isplitl [b4]; · iexact b4
      isplitl [b5]; · iexact b5
      isplitl [b6]; · iexact b6
      iexact b7
    isplitl [R0 R1 R2 R3]
    · iapply (join_rs c f0 f1 f2 f3)
      isplitl [R0]; · iexact R0
      isplitl [R1]; · iexact R1
      isplitl [R2]; · iexact R2
      iexact R3
    isplitl [G4 G5 G6 G7]
    · iapply (join_ag c f4 f5 f6 f7)
      isplitl [G4]; · iexact G4
      isplitl [G5]; · iexact G5
      isplitl [G6]; · iexact G6
      iexact G7
    isplitl [Hk]; · iexists _; iexact Hk
    iexists _; iexact Hv
  isplitl [HBar]; · iexact HBar
  isplitl [y0 z0]; · isplitl [y0] <;> iassumption
  isplitl [y1 z1]; · isplitl [y1] <;> iassumption
  isplitl [y2 z2]; · isplitl [y2] <;> iassumption
  isplitl [y3 z3]; · isplitl [y3] <;> iassumption
  isplitl [y4 z4]; · isplitl [y4] <;> iassumption
  isplitl [y5 z5]; · isplitl [y5] <;> iassumption
  isplitl [y6 z6]; · isplitl [y6] <;> iassumption
  isplitl [y7] <;> iassumption

end Cert.KProof

end
-- ==== Proof.Fund.lean ====
/-
# `Fund`: the protocol's resources at launch

The cells of all devices, their invariants, the tokens dealt to the devices that pay them, and the credit of what each
device is owed.
-/
module

public import proofs.«01_k».proof.Proof.Body

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores -/

/-- The kernel's own DMA semaphores: the transfers' two families, and the cache copies' four. -/
abbrev OI : Type := Fin 8 ⊕ (Fin 8 ⊕ Fin 4)
def osem : OI → SemLoc sig
  | .inl j => .dma (sendS j)
  | .inr (.inl j) => .dma (recvS j)
  | .inr (.inr r) => .dma (kvS r)

theorem kcell_injective : Function.Injective (kcell : Dev nD × CI → GSem nD τ sig) := by
  have hs : ∀ k k' : CI, (kcell ((0 : Dev nD), k)).2 = (kcell ((0 : Dev nD), k')).2 → k = k' := by decide
  have h2 : ∀ (c : Dev nD) (k : CI), (kcell (c, k)).2 = (kcell ((0 : Dev nD), k)).2 := by
    rintro c (_ | _ | _) <;> rfl
  have h1 : ∀ (c : Dev nD) (k : CI), (kcell (c, k)).1.1 = c := by
    rintro c (_ | _ | _) <;> rfl
  rintro ⟨c, k⟩ ⟨c', k'⟩ h
  have e1 : c = c' := (h1 c k).symm.trans ((congrArg (fun g : GSem nD τ sig => g.1.1) h).trans (h1 c' k'))
  have e2 : k = k' := hs k k' ((h2 c k).symm.trans ((congrArg Prod.snd h).trans (h2 c' k')))
  rw [e1, e2]
def allCells : Finset (GSem nD τ sig) := Finset.univ.map ⟨kcell, kcell_injective⟩

/-- The duties of a device's own cells: the barrier's four, each send cell's and each receive cell's one. -/
abbrev TI : Type := Fin 4 ⊕ (Fin 8 ⊕ Fin 8)
/-- The cell a duty belongs to, and the duty's number. -/
def duty : TI → CI × Fin 4
  | .inl k => (.inl (), k)
  | .inr x => (.inr x, 0)
theorem duty_injective : Function.Injective duty := by decide
def tokOf (p : Dev nD × TI) : GSem nD τ sig × ℕ × Fin 4 := (kcell (p.1, (duty p.2).1), 0, (duty p.2).2)
theorem tokOf_injective : Function.Injective tokOf := by
  rintro ⟨c, t⟩ ⟨c', t'⟩ h
  have h1 := kcell_injective (congrArg Prod.fst h)
  have h2 : (duty t).2 = (duty t').2 := congrArg (fun x : GSem nD τ sig × ℕ × Fin 4 => x.2.2) h
  have e1 : c = c' := congrArg Prod.fst h1
  have e2 : t = t' := duty_injective (Prod.ext (congrArg Prod.snd h1) h2)
  rw [e1, e2]
def allToks : Finset (GSem nD τ sig × ℕ × Fin 4) := Finset.univ.map ⟨tokOf, tokOf_injective⟩

/-! ## Conjunctions over the cells of a device -/

omit [FloatOps F] in
theorem bigSep_unit (Φ : Unit → sProp 𝕄) : bigSep Finset.univ Φ = Φ () := bigSep_univ_eq_bigSepL [()] (by decide) (by decide) Φ
omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_sum3 {A B C : Type} [Fintype A] [Fintype B] [Fintype C] (Φ : A ⊕ (B ⊕ C) → sProp 𝕄) :
    bigSep Finset.univ Φ = iprop(bigSep Finset.univ (fun a => Φ (.inl a)) ∗ bigSep Finset.univ (fun b => Φ (.inr (.inl b))) ∗ bigSep Finset.univ fun c => Φ (.inr (.inr c))) := by
  rw [bigSep_univ_sum, bigSep_univ_sum (fun x => Φ (.inr x))]; rfl
omit [FloatOps F] in
theorem bigSep_cells (Φ : CI → sProp 𝕄) :
    bigSep Finset.univ Φ = iprop(Φ (.inl ()) ∗ bigSep Finset.univ (fun j => Φ (.inr (.inl j))) ∗ bigSep Finset.univ fun j => Φ (.inr (.inr j))) := by
  rw [bigSep_sum3, bigSep_unit (fun a => Φ (.inl a))]

omit [FloatOps F] in
/-- A family over devices, dealt to each device's partner: the partner of a partner is the device itself. -/
theorem bigSep_around {J : Type} [Fintype J] [DecidableEq J] (p : J → Dev nD → Dev nD) (hp : ∀ j c, p j (p j c) = c) (Φ : Dev nD → J → sProp 𝕄) :
    (bigSep Finset.univ fun c => bigSep Finset.univ fun j => Φ c j) = bigSep Finset.univ fun c => bigSep Finset.univ fun j => Φ (p j c) j := by
  let e : Dev nD × J ≃ Dev nD × J := ⟨fun x => (p x.2 x.1, x.2), fun x => (p x.2 x.1, x.2),
    fun x => Prod.ext (hp x.2 x.1) rfl, fun x => Prod.ext (hp x.2 x.1) rfl⟩
  rw [← bigSep_univ_prod (fun x : Dev nD × J => Φ x.1 x.2), bigSep_univ_equiv e, bigSep_univ_prod]; rfl

/-! ## The launch element, and what it deals each device -/

def u₀ : UU := (initOf (Pipeline.cells cfgs cellOf_inj) (Pipeline.launchToks cfgs cellOf_inj), (initOf allCells allToks, 1))

/-- The tokens of the duties of a device's own cells, -/
def mint (c : Dev nD) : sProp 𝕄 :=
  iprop((bigSep Finset.univ fun k : Fin 4 => dutyTok ER (barCell c) 0 k)
    ∗ (bigSep Finset.univ fun j : Fin 8 => dutyTok ER (sendCell j c) 0 0) ∗ bigSep Finset.univ fun j : Fin 8 => dutyTok ER (recvCell j c) 0 0)
/-- and of the duties the device pays. -/
def pays (c : Dev nD) : sProp 𝕄 :=
  iprop((bigSep Finset.univ fun k : Fin 4 => dutyTok ER (barCell (peer (up k) c)) 0 k)
    ∗ (bigSep Finset.univ fun j : Fin 8 => dutyTok ER (sendCell j c) 0 0) ∗ bigSep Finset.univ fun j : Fin 8 => dutyTok ER (recvCell j (peer j c)) 0 0)

omit [FloatOps F] in
theorem mint_around : (bigSep Finset.univ fun c : Dev nD => (mint c : sProp 𝕄)) = bigSep Finset.univ fun c : Dev nD => pays c := by
  unfold mint pays
  rw [bigSep_sep', bigSep_sep', bigSep_sep', bigSep_sep',
    bigSep_around (fun k : Fin 4 => peer (up k)) (fun k c => peer_peer (up k) c) (fun c k => (dutyTok ER (barCell c) 0 k : sProp 𝕄)),
    bigSep_around (fun j : Fin 8 => peer j) (fun j c => peer_peer j c) (fun c j => (dutyTok ER (recvCell j c) 0 0 : sProp 𝕄))]

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ mint c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]
    exact bigSep_congr fun c _ => by unfold mint; rw [bigSep_sum3]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (sendCell j c) 0) ∗ (bigSep Finset.univ fun j : Fin 8 => semVal (recvCell j c) 0) ∗ Idle c) := by
  unfold Pipeline.ownSems0; rw [bigSep_sum3, bigSep_four]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ Idle c) : sProp 𝕄) := by
  rw [ownSems0_eq, unscopedSems0_eq, bigSep_cells]
  iintro ⟨⟨HS, HV, HI⟩, HB⟩
  isplitr [HI]
  · isplitl [HB]; · iexact HB
    isplitl [HS]; · iexact HS
    iexact HV
  iexact HI

/-- A device's cells, their invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ mint c ∗ Idle c) := by
  unfold G
  iintro ⟨Hos, Hus, Hst, Hat, Htok⟩
  ihave Hv := (sems0 (F := F) c) $$ [Hos Hus]
  · isplitl [Hos] <;> iassumption
  icases Hv with ⟨Hv, HI⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HI

/-- Every cell's invariant and that it is at round 0: known to every device. -/
def records (K : Dev nD × CI → ℕ) : sProp 𝕄 :=
  bigSep Finset.univ fun p => iprop(cellInv ER (Rd m) (K p) (kcell p) ∗ reached ER (kcell p) 0)
instance records_persistent (K : Dev nD × CI → ℕ) : BI.Persistent (records m K) := by unfold records; infer_instance
/-- What is one device's alone. -/
def linear (c : Dev nD) : sProp 𝕄 :=
  iprop((bigSep Finset.univ fun k : CI => atPos ER (kcell (c, k)) 0 ∅ 0) ∗ pays c ∗ Idle c)
/-- What each device starts from. -/
def G' (c : Dev nD) : sProp 𝕄 := iprop(∃ K, records m K ∗ linear c)

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0)) ∗ mint c ∗ Idle c) : sProp 𝕄)
      ⊢ bigSep Finset.univ (G' m) := by
  rw [bigSep_sep', bigSep_sep', bigSep_sep', mint_around, ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, HR⟩, Htok, Hid⟩
  ihave HK := (BI.bigSep_exists_pi Finset.univ (fun (ck : Dev nD × CI) (κ : ℕ) => (cellInv ER (Rd m) κ (kcell ck) : sProp 𝕄))) $$ HI
  icases HK with ⟨%K, HI⟩
  have hw : iprop(records m K ∗ bigSep Finset.univ fun c : Dev nD => (linear c : sProp 𝕄)) ⊢ bigSep Finset.univ (G' m) :=
    (sep_mono_left (BI.bigSep_of_persistent Finset.univ (records m K))).trans (by
      rw [← bigSep_sep']
      exact bigSep_mono fun c _ => by
        show iprop(records m K ∗ linear c) ⊢ G' m c
        unfold G'; iintro H; iexists K; iexact H)
  iapply hw
  isplitl [HI HR]
  · unfold records; rw [bigSep_sep']
    isplitl [HI]; · iexact HI
    iexact HR
  · unfold linear; rw [bigSep_sep', bigSep_sep']
    isplitl [Hat]; · iexact Hat
    isplitl [Htok]; · iexact Htok
    iexact Hid

/-- All devices' semaphores at once, their cells' invariants allocated and the tokens dealt to who pays them. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what the other devices owe a device's cells -/

theorem bar_eq_iff {a b : Dev nD} : Iff (barCell a = barCell b) (a = b) :=
  ⟨fun h => congrArg (fun g : GSem nD τ sig => g.1.1) h, fun h => h ▸ rfl⟩
theorem recv_eq_iff {i j : Fin 8} {a b : Dev nD} : Iff (recvCell i a = recvCell j b) (i = j ∧ a = b) := by
  constructor
  · intro h
    have := kcell_injective (a₁ := (a, .inr (.inr i))) (a₂ := (b, .inr (.inr j))) h
    simp only [Prod.mk.injEq, Sum.inr.injEq] at this
    exact ⟨this.2, this.1⟩
  · rintro ⟨rfl, rfl⟩; rfl
theorem recv_ne_bar {i : Fin 8} {a b : Dev nD} : recvCell i a ≠ barCell b := fun h => by
  have := kcell_injective (a₁ := (a, .inr (.inr i))) (a₂ := (b, .inl ())) h
  simp at this

theorem O₀_eq (d : Dev nD) : O₀ d = (∑ j : Fin 8, tallyAt (recvCell j (peer j d)) () (N j)) + ∑ k : Fin 4, tallyAt (barCell (peer (up k) d)) () 1 := by
  rw [Fin.sum_univ_eight, Fin.sum_univ_four]
  show (((((((((((0 + tallyAt (recvCell 7 (peer 7 d)) () (N 7)) + tallyAt (recvCell 6 (peer 6 d)) () (N 6)) + tallyAt (recvCell 5 (peer 5 d)) () (N 5))
    + tallyAt (recvCell 4 (peer 4 d)) () (N 4)) + tallyAt (recvCell 3 (peer 3 d)) () (N 3)) + tallyAt (recvCell 2 (peer 2 d)) () (N 2))
    + tallyAt (recvCell 1 (peer 1 d)) () (N 1)) + tallyAt (recvCell 0 (peer 0 d)) () (N 0)) + tallyAt (barCell (peer (up 3) d)) () 1)
    + tallyAt (barCell (peer (up 2) d)) () 1) + tallyAt (barCell (peer (up 1) d)) () 1) + tallyAt (barCell (peer (up 0) d)) () 1 = _
  rw [zero_add]
  ac_rfl

theorem peer_eq_iff (j : Fin 8) (d c : Dev nD) : Iff (c = peer j d) (d = peer j c) :=
  ⟨fun h => by rw [h, peer_peer], fun h => by rw [h, peer_peer]⟩

theorem owed_bar (d c : Dev nD) : O₀ d (barCell c) () = ∑ k : Fin 4, if d = peer (up k) c then 1 else 0 := by
  rw [O₀_eq, Pi.add_apply, Finsupp.add_apply, Finset.sum_apply, Finset.sum_apply, Finsupp.finset_sum_apply, Finsupp.finset_sum_apply,
    Finset.sum_eq_zero, Nat.zero_add]
  · refine Finset.sum_congr rfl fun k _ => ?_
    rw [tallyAt_apply]
    exact if_congr ⟨fun h => (peer_eq_iff _ _ _).mp (bar_eq_iff.mp h.1), fun h => ⟨bar_eq_iff.mpr ((peer_eq_iff _ _ _).mpr h), rfl⟩⟩ rfl rfl
  · intro j _
    rw [tallyAt_apply, if_neg fun h => recv_ne_bar h.1.symm]

theorem owed_recv (d c : Dev nD) (j : Fin 8) : O₀ d (recvCell j c) () = if d = peer j c then N j else 0 := by
  rw [O₀_eq, Pi.add_apply, Finsupp.add_apply, Finset.sum_apply, Finset.sum_apply, Finsupp.finset_sum_apply, Finsupp.finset_sum_apply]
  rw [Finset.sum_eq_zero (s := (Finset.univ : Finset (Fin 4))), Nat.add_zero, Finset.sum_eq_single j]
  · rw [tallyAt_apply]
    exact if_congr ⟨fun h => (peer_eq_iff _ _ _).mp (recv_eq_iff.mp h.1).2, fun h => ⟨recv_eq_iff.mpr ⟨rfl, (peer_eq_iff _ _ _).mpr h⟩, rfl⟩⟩ rfl rfl
  · intro i _ hi
    rw [tallyAt_apply, if_neg fun h => hi (recv_eq_iff.mp h.1).1.symm]
  · intro h; exact absurd (Finset.mem_univ _) h
  · intro k _
    rw [tallyAt_apply, if_neg fun h => recv_ne_bar h.1]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (peer (up k) c) fun _ => 1).trans (if_pos (Finset.mem_univ _))]
  rfl
theorem launch_recv (c : Dev nD) (j : Fin 8) :
    tallyOn (recvCell j c) (launchCredit (Pipeline.owing O₀) 0 (recvCell j c)) = (tallyAt (recvCell j c) () (N j) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer j c) fun _ => N j, if_pos (Finset.mem_univ _)]

theorem recvS_inj : Function.Injective (fun j : Fin 8 => (SemLoc.dma (recvS j) : SemLoc sig)) := by decide

omit [FloatOps F] in
theorem creds (c : Dev nD) :
    (Pipeline.launchCred O₀ c : sProp 𝕄) ⊢ iprop(cred (tallyAt (barCell c) () 4) ∗ bigSep Finset.univ fun j : Fin 8 => cred (tallyAt (recvCell j c) () (N j))) := by
  unfold Pipeline.launchCred
  rw [bigSep_univ_at _ (SemLoc.reg barS), launch_bar]
  refine sep_mono_right ?_
  refine BIBase.Entails.trans (BI.bigSep_subset (s := Finset.univ.erase (SemLoc.reg barS)) (t := Finset.univ.map ⟨_, recvS_inj⟩) ?_) ?_
  · intro x hx
    obtain ⟨j, -, rfl⟩ := Finset.mem_map.mp hx
    exact Finset.mem_erase.mpr ⟨fun h => by simp at h, Finset.mem_univ _⟩
  · rw [bigSep_map]
    exact Entails.of_eq (bigSep_congr fun j _ => congrArg _ (launch_recv c j))

end Cert.KProof

end
-- ==== Proof.Launch.lean ====
/-
# `Launch`: the whole run

From any memory with all semaphores at zero, every run of the program ends, the arguments unchanged and the result array
of device `c` at `X m 8 c`.
-/
module

public import proofs.«01_k».proof.Proof.Fund
public import Idealize.ShloMosaic.Lib.Pipeline.CollectiveSegs
public import Idealize.ShloMosaic.Lib.Pipeline.ValueKit

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What a device's body starts from besides its windows and scratch, -/
def start (c : Dev nD) : sProp 𝕄 :=
  iprop(Caches m c ∗ Idle c ∗ ∃ K, PF m K ∗ BarGhost c
    ∗ (Ride 0 c ∗ Ride 1 c ∗ Ride 2 c ∗ Ride 3 c ∗ Ride 4 c ∗ Ride 5 c ∗ Ride 6 c ∗ Ride 7 c))
def Φ₀ (c : Dev nD) : sProp 𝕄 := iprop(start m c ∗ Scratch c)
/-- and ends with. -/
def Φ₁ (c : Dev nD) : sProp 𝕄 :=
  iprop(Caches m c ∗ Idle c ∗ Scratch c ∗ semVal (barCell c) 0
    ∗ (Done 0 c ∗ Done 1 c ∗ Done 2 c ∗ Done 3 c ∗ Done 4 c ∗ Done 5 c ∗ Done 6 c ∗ Done 7 c))

/-- The pipeline's data: the windows' contents after the body, the result being `X m 8 c`, and what is held across it. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => X m 8 c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ ((c : Thread nD τ).loc b ↦{fullShare} f)) := by
  unfold owns; simp only [Memref.view_whole, View.read_whole, View.set_whole]

/-- A window's staging buffer, at given contents. -/
abbrev held (c : Dev nD) (b : Ref sig .tc) (Y : b.ty.Contents (Elt F)) : sProp 𝕄 :=
  iprop(∃ f : Buf (Elt F) ((c : Thread nD τ).loc b), ⌜f = Y⌝ ∗ ((c : Thread nD τ).loc b ↦{fullShare} f))

theorem before_in (c : Dev nD) (d) :
    (dats m ρ 0 c).before (0 : Fin 4) t0_0 d = xC m c := by
  unfold Pipeline.Dat.before; rw [if_pos (fetch0_0 t0_0)]; funext i
  have h : ∀ a : Fin 3, win0_0.index t0_0 a = 0 := by decide
  exact (congrFun ((dats m ρ 0 c).cut_fetched (0 : Fin 4) t0_0 d) i).trans
    (congrArg (m ((c : Thread nD τ).loc main_arg0)) (funext fun a => Fin.ext (win0_0.rect_emb_val_of_index_zero t0_0 a (h a) i)))
theorem before_in₁ (c : Dev nD) (d) :
    (dats m ρ 0 c).before (1 : Fin 4) t0_0 d = wqC m c := by
  unfold Pipeline.Dat.before; rw [if_pos (fetch0_1 t0_0)]; funext i
  have h : ∀ a : Fin 2, win0_1.index t0_0 a = 0 := by decide
  exact (congrFun ((dats m ρ 0 c).cut_fetched (1 : Fin 4) t0_0 d) i).trans
    (congrArg (m ((c : Thread nD τ).loc main_arg1)) (funext fun a => Fin.ext (win0_1.rect_emb_val_of_index_zero t0_0 a (h a) i)))
theorem before_in₂ (c : Dev nD) (d) :
    (dats m ρ 0 c).before (2 : Fin 4) t0_0 d = woC m c := by
  unfold Pipeline.Dat.before; rw [if_pos (fetch0_2 t0_0)]; funext i
  have h : ∀ a : Fin 2, win0_2.index t0_0 a = 0 := by decide
  exact (congrFun ((dats m ρ 0 c).cut_fetched (2 : Fin 4) t0_0 d) i).trans
    (congrArg (m ((c : Thread nD τ).loc main_arg4)) (funext fun a => Fin.ext (win0_2.rect_emb_val_of_index_zero t0_0 a (h a) i)))

def bodyPre (c : Dev nD) : sProp 𝕄 :=
  iprop(Φ₀ m c ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
def bodyPost (c : Dev nD) : sProp 𝕄 :=
  iprop(Φ₁ m c ∗ (dats m ρ 0 c).owesAt () t0_0.succ
    ∗ held c cc0_stg0_0 (xC m c) ∗ held c cc0_stg1_0 (wqC m c) ∗ held c cc0_stg2_0 (woC m c) ∗ held c cc0_stg3_0 (X m 8 c))

theorem pre_in (c : Dev nD) : bodyPre m ρ c ⊢ iprop(∃ K, BodyIn m K c) := by
  unfold bodyPre Φ₀ start Pipeline.Dat.owesAt Pipeline.owesWithin
  iintro ⟨⟨⟨HC, HI, ⟨%K, HP, HB, HR⟩⟩, HS⟩, ⟨%W, -, HO⟩, ⟨%d0, %f0, %e0, H0⟩, ⟨%d1, %f1, %e1, H1⟩, ⟨%d2, %f2, %e2, H2⟩, ⟨%d3, %f3, -, H3⟩⟩
  rw [before_in] at e0; rw [before_in₁] at e1; rw [before_in₂] at e2
  subst e0 e1 e2
  iexists K
  unfold BodyIn
  isplitl [HP]; · iexact HP
  isplitl [HO]; · unfold OweB; iexists W; iexact HO
  isplitl [H0 H1 H2 H3]
  · isplitl [H0]; · unfold XIs; iexact H0
    isplitl [H1]; · unfold WqIs; iexact H1
    isplitl [H2]; · unfold WoIs; iexact H2
    iexists f3; iexact H3
  isplitl [HC]; · iexact HC
  isplitl [HI]; · iexact HI
  isplitl [HS]; · iexact HS
  isplitl [HB]; · iexact HB
  iexact HR

theorem out_post (c : Dev nD) : BodyOut m c ⊢ bodyPost m ρ c := by
  unfold BodyOut bodyPost Φ₁ Pipeline.Dat.owesAt Pipeline.owesWithin
  rw [show (dats m ρ 0 c).owed t0_0.succ = 0 from rfl]
  iintro ⟨HO, ⟨H0, H1, H2, H3⟩, HC, HI, HS, HB, HD⟩
  isplitl [HC HI HS HB HD]
  · isplitl [HC]; · iexact HC
    isplitl [HI]; · iexact HI
    isplitl [HS]; · iexact HS
    isplitl [HB]; · iexact HB
    iexact HD
  isplitl [HO]
  · unfold Owe; icases HO with ⟨%W, HO⟩
    iexists W
    isplitr; · ipureintro; exact fun _ _ => Or.inl trivial
    iexact HO
  unfold XIs WqIs WoIs
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

/-- The body at the grid's one point. -/
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (onBufs (cc0_body (F := F))) (fun _ => bodyPost m ρ c)
  iintro H
  ihave H := (pre_in m ρ c) $$ H
  icases H with ⟨%K, H⟩
  iapply (sound_body m K c fun _ => bodyPost m ρ c)
  isplitl [H]; · iexact H
  iintro H
  iapply (out_post m ρ c)
  iexact H

/-! ## The launch -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' linear pays
  rw [bigSep_cells, bigSep_four]
  iintro ⟨HC, HL, Hcr, -, ⟨%K, HR, ⟨ab, asd, av⟩, ⟨tb, ts, tv⟩, HI⟩⟩
  ihave Hcr := (creds (F := F) c) $$ Hcr
  icases Hcr with ⟨cb, cv⟩
  imodintro
  isplitl; swap; · iempintro
  unfold start
  isplitl [HC]; · unfold Caches; iexact HC
  isplitl [HI]; · iexact HI
  iexists K
  isplitl [HL HR]
  · unfold PF records
    isplitl [HL] <;> iassumption
  isplitl [ab tb cb]
  · unfold BarGhost
    isplitl [tb]; · iexact tb
    isplitl [cb]; · iexact cb
    iexact ab
  iapply (Entails.of_eq (bigSep_eight (fun j => Ride (F := F) j c)))
  unfold Ride toks rpos spos
  simp only [bigSep_sep']
  isplitl [ts tv]
  · isplitl [ts]; · iexact ts
    iexact tv
  isplitl [av cv]
  · isplitl [av]; · iexact av
    iexact cv
  iexact asd

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

/-- What is read at the end besides the windows' arrays: the barrier at zero, the caches unchanged. -/
def fin (c : Dev nD) : sProp 𝕄 := iprop(unscopedSems0 c ∗ Caches m c)

theorem dones_eq (c : Dev nD) :
    (iprop(Done 0 c ∗ Done 1 c ∗ Done 2 c ∗ Done 3 c ∗ Done 4 c ∗ Done 5 c ∗ Done 6 c ∗ Done 7 c) : sProp 𝕄)
      = iprop((bigSep Finset.univ fun j : Fin 8 => semVal (sendCell j c) 0) ∗ bigSep Finset.univ fun j : Fin 8 => semVal (recvCell j c) 0) := by
  rw [← bigSep_eight (fun j => Done (F := F) j c)]
  unfold Done
  rw [bigSep_sep']

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ fin Scratch
  rw [unscopedSems0_eq]
  iintro ⟨HC, HI, Hr, HB, HD⟩
  ihave HD := (Entails.of_eq (dones_eq (F := F) c)) $$ HD
  icases HD with ⟨HS, HV⟩
  isplitl [HB HC]
  · isplitl [HB]; · iexact HB
    iexact HC
  isplitl [HS HV HI]
  · isplitl [HS]; · iexact HS
    isplitl [HV]; · iexact HV
    iexact HI
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is known of device `c`'s final memory besides its windows' arrays. -/
def QY (c : Dev nD) (s : MemSt nD τ sig (Elt F)) : Prop :=
  (s.mem ((c : Thread nD τ).loc main_arg2) = m ((c : Thread nD τ).loc main_arg2)
    ∧ s.mem ((c : Thread nD τ).loc main_arg3) = m ((c : Thread nD τ).loc main_arg3))
  ∧ ∀ sm : SemLoc sig, sm.isScoped .tc = false → s.sem ((c : Thread nD τ), sm) = 0

theorem fin_read (c : Dev nD) (s' : Phys nD τ sig (Elt F)) :
    iprop(fin m c ∗ emp ∗ SI s') ⊢ (|={Set.univ}=> iprop(⌜QY m c s'.mem⌝ ∗ SI s') : sProp 𝕄) := by
  unfold fin Caches QY
  iintro ⟨⟨Hu, ⟨H2, H3⟩⟩, -, HSI⟩
  imod (Pipeline.unscopedSems0_read (X := unscopedSems0 c) (c := c) fupd_intro s') $$ [Hu HSI] with ⟨%hz, HSI⟩
  · isplitl [Hu] <;> iassumption
  icombine HSI H2 gives %h2
  icombine HSI H3 gives %h3
  imodintro
  isplitr
  · ipureintro
    exact ⟨⟨Buf.eq_of_forall_mem_univ h2, Buf.eq_of_forall_mem_univ h3⟩, hz⟩
  iexact HSI

def finalA (c : Dev nD) (w : Fin cfg0.W) : Buf (Elt F) ((cfg0.win w).arr.view.loc (c : Thread nD τ)) := (dats m ρ 0 c).arrAt w cfg0.N

/-- The windows' arrays and the caches at the end. -/
def QC : PUnit × MemSt nD τ sig (Elt F) → Prop := fun r =>
  ∀ c : Dev nD, (∀ w : Fin cfg0.W, r.2.mem ((cfg0.win w).arr.view.loc (c : Thread nD τ)) = finalA m ρ c w) ∧ QY m c r.2

/-- Every run ends, with each device's windows' arrays as computed, its caches unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m) (hY := fin_read m)
    (hQ := fun _ h hs => ⟨fun c => ⟨(h c).1, (h c).2.2⟩, sem_eq_zero hs fun c => (h c).2.2.2⟩)

theorem final_in (c : Dev nD) (w : Fin cfg0.W) (h : (cfg0.win w).isOut = false) :
    finalA m ρ c w = m ((cfg0.win w).arr.view.loc (c : Thread nD τ)) :=
  (dats (F := F) m ρ 0 c).arrAt_in w h _

/-- The result array holds `X m 8 c`. -/
theorem final_out (c : Dev nD) : finalA m ρ c (3 : Fin 4) = (X m 8 c : Buf (Elt F) ((c : Thread nD τ).loc main_v1)) :=
  (dats m ρ 0 c).arrAt_eq_of_after_last (3 : Fin 4) t0_0 (by decide +kernel) _ (fun j => rfl) (arr_whole0 3)

end Cert.KProof

end
-- ==== Proof.Frames.lean ====
/- The frames: each program runs to the end from any memory, its arguments are unchanged and every semaphore counter
   is back at zero. -/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the run says of a device's arguments. -/
theorem args_kept (m : (ℓ : Loc nD τ sig) → Buf (Elt F) ℓ) (ρ : Dev nD → PrngReg) {r : PUnit × MemSt nD τ sig (Elt F)} (h : QC m ρ r)
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 (0 : Fin 4)).trans (final_in m ρ c (0 : Fin 4) rfl), ((h c).1 (1 : Fin 4)).trans (final_in m ρ c (1 : Fin 4) rfl),
    (h c).2.1.1, (h c).2.1.2, ((h c).1 (2 : Fin 4)).trans (final_in m ρ c (2 : Fin 4) rfl)⟩

/-- Over any floats, the kernel's frame. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => args_kept m ρ h.1 c, h.2⟩) (run_main m ρ)

/-- The kernel read over extended reals. -/
theorem frame_kernelIdeal : Cert.quiescent_KernelIdeal := fun m ρ _ => frame_run (F := Ideal) m ρ

set_option maxRecDepth 100000 in
/-- The kernel over bits has the same body table, -/
theorem bodies_eq : Cert.Kernel.defs₀ (F := Bits) = Cert.KernelIdeal.defs₀ (F := Bits) := by
  refine congrArg Defs.onTc (funext fun l => funext fun a => ?_)
  obtain ⟨l, hl⟩ := l
  match l, hl, a with
  | 0, _, (t, s) => rfl

theorem tables_eq : Cert.Kernel.defs (F := Bits) = Cert.KernelIdeal.defs (F := Bits) :=
  congrArg (Pipeline.defs (Cert.Kernel.pcfgs (F := Bits))) bodies_eq

/-- so the same run. -/
theorem frame_kernel : Cert.quiescent_Kernel := fun m ρ _ => by
  have h := frame_run (F := Bits) m ρ
  rw [← tables_eq] at h
  exact h

/-- The reference, a list of host operations without a semaphore. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

end Cert.KProof

end
-- ==== Proof.Tie.lean ====
/- Over extended reals: the sum of the devices' partial products is the reference's result. -/
module

public import Idealize.ShloMosaic.Lib.Pointwise
public import Idealize.ShloMosaic.Lib.Layout
public import proofs.«01_k».proof.Proof.Reduce
public import proofs.«01_k».proof.Proof.Ref
public import proofs.«01_k».proof.Proof.Frames

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt Ideal) ℓ)

/-- The arrays that the devices hold their parts of. -/
structure Whole (x : FVec Ideal S4x256x1024 .f32) (wq : (⟨2, ![1024, 16384]⟩ : Shape).Idx → EReal) (k v : FVec Ideal S4x1024x32x128 .f32)
    (wo : (⟨2, ![16384, 1024]⟩ : Shape).Idx → EReal) : Prop where
  x : ∀ c, xC m c = x
  wq : ∀ c, wqC m c = Layout.block ⟨2, ![1024, 1024]⟩ ⟨2, ![1024, 16384]⟩ 1 16 c wq
  k : ∀ c, kC m c = k
  v : ∀ c, vC m c = v
  wo : ∀ c, woC m c = Layout.block ⟨2, ![1024, 1024]⟩ ⟨2, ![16384, 1024]⟩ 0 16 c wo

variable {m} {x : FVec Ideal S4x256x1024 .f32} {wq : (⟨2, ![1024, 16384]⟩ : Shape).Idx → EReal} {k v : FVec Ideal S4x1024x32x128 .f32}
  {wo : (⟨2, ![16384, 1024]⟩ : Shape).Idx → EReal}

theorem place_lt (c : Fin 16) (n : Fin 1024) : c.val * 1024 + n.val < 16384 := by omega

/-- Column `n` of device `c`'s block of `Wq`; -/
theorem Whole.wq_apply (h : Whole m x wq k v wo) (c : Fin 16) (j n : Fin 1024) :
    wqC m c (ix2 j n) = wq (ix2 j (⟨c.val * 1024 + n.val, place_lt c n⟩ : Fin 16384)) := by
  rw [h.wq c]
  refine congrArg wq (funext fun a => ?_)
  fin_cases a <;> rfl

/-- row `j` of its block of `Wo`. -/
theorem Whole.wo_apply (h : Whole m x wq k v wo) (c : Fin 16) (j n : Fin 1024) :
    woC m c (ix2 j n) = wo (ix2 (⟨c.val * 1024 + j.val, place_lt c j⟩ : Fin 16384) n) := by
  rw [h.wo c]
  refine congrArg wo (funext fun a => ?_)
  fin_cases a <;> rfl

/-- A device's scaled queries are the reference's, scaled. -/
theorem Whole.queries (h : Whole m x wq k v wo) (c : Fin 16) (r n : Fin 1024) :
    Qf m c (ix2 r (⟨n.val, n.isLt⟩ : Fin 1024))
      = RefProof.queries x wq (ix4 (⟨r.val / 256, by omega⟩ : Fin 4) (⟨r.val % 256, by omega⟩ : Fin 256)
          (⟨(c.val * 1024 + n.val) / 128, by omega⟩ : Fin 128) (⟨n.val % 128, by omega⟩ : Fin 128)) * scale := by
  refine (pay6_apply (xC m c) (wqC m c) r n).trans ?_
  rw [RefProof.queries_apply, h.x c]
  refine congrArg (fun a : EReal => a * scale) (Finset.sum_congr rfl fun j _ => ?_)
  refine congrArg₂ (fun a b : EReal => a * b) rfl ?_
  refine (h.wq_apply c j n).trans (congrArg wq ?_)
  exact congrArg (ix2 j) (Fin.ext (by show c.val * 1024 + n.val = (c.val * 1024 + n.val) / 128 * 128 + n.val % 128; omega))

/-- The key or value head of a query head of device `c`. -/
theorem repeated_place (a : FVec Ideal S4x1024x32x128 .f32) (c : Fin 16) (b : Fin 4) (t n : Fin 1024) (d : Fin 128) :
    RefProof.repeated a (ix4 b t (⟨(c.val * 1024 + n.val) / 128, by omega⟩ : Fin 128) d)
      = a (ix4 b t (⟨2 * c.val + n.val / 512, kv_lt c n⟩ : Fin 32) d) := by
  rw [RefProof.repeated_apply]
  exact congrArg (fun e : Fin 32 => a (ix4 b t e d)) (Fin.ext (by show (c.val * 1024 + n.val) / 128 / 4 = 2 * c.val + n.val / 512; omega))

/-- A device's attention output is the reference's, at the device's columns. -/
theorem Whole.attention (h : Whole m x wq k v wo) (c : Fin 16) (r n : Fin 1024) :
    Attn m c (ix2 r n)
      = RefProof.attention (RefProof.scores (RefProof.queries x wq) (RefProof.repeated k)) (RefProof.repeated v)
          (ix3 (⟨r.val / 256, by omega⟩ : Fin 4) (⟨r.val % 256, by omega⟩ : Fin 256) (⟨c.val * 1024 + n.val, place_lt c n⟩ : Fin 16384)) := by
  rw [Attn_apply, RefProof.attention_apply, h.k c, h.v c]
  refine congrArg₂ attend (funext fun t => ?_) (funext fun t => ?_)
  · rw [RefProof.scores_apply, sum_scale]
    refine Finset.sum_congr rfl fun d _ => ?_
    rw [repeated_place, mul_right_comm]
    refine congrArg (fun a : EReal => a * k _) ?_
    refine (h.queries c r ⟨n.val / 128 * 128 + d.val, by omega⟩).trans (congrArg (fun a : EReal => a * scale) ?_)
    refine congrArg₂ (fun a b : Fin 128 => RefProof.queries x wq (ix4 _ _ a b)) (Fin.ext ?_) (Fin.ext ?_)
    · show (c.val * 1024 + (n.val / 128 * 128 + d.val)) / 128 = (c.val * 1024 + n.val) / 128; omega
    · show (n.val / 128 * 128 + d.val) % 128 = d.val; omega
  · rw [repeated_place]
    exact congrArg (fun e : Fin 128 => v (ix4 _ t _ e)) (Fin.ext (by show n.val % 128 = (c.val * 1024 + n.val) % 128; omega))

/-- Every device ends with the reference's result. -/
theorem Whole.result (h : Whole m x wq k v wo) (c : Dev nD) :
    X m 8 c = RefProof.projected
      (RefProof.attention (RefProof.scores (RefProof.queries x wq) (RefProof.repeated k)) (RefProof.repeated v)) wo := by
  funext i
  obtain ⟨r, n, rfl⟩ : ∃ (r n : Fin 1024), i = ix2 r n := ⟨i 0, i 1, eq_ix2 i⟩
  rw [X_eight, RefProof.projected_apply, Fin.sum_univ_tiles 16 1024 rfl]
  refine Finset.sum_congr rfl fun d _ => ?_
  rw [X_zero_apply]
  refine Finset.sum_congr rfl fun j _ => ?_
  exact congrArg₂ (fun a b : EReal => a * b) (h.attention d r j) (h.wo_apply d j n)

/-- The kernel read over extended reals ends, on every device, with the reference's result. -/
theorem algebraic : Cert.algebraic_KernelIdeal_ReferenceIdeal := fun m ρ m' ρ' _ h => by
  have hw : Whole m (m' ((((0 : Dev _).tc : Thread Cert.ReferenceIdeal.nD Cert.ReferenceIdeal.τ)).loc Cert.ReferenceIdeal.main_arg0))
      (m' ((((0 : Dev _).tc : Thread Cert.ReferenceIdeal.nD Cert.ReferenceIdeal.τ)).loc Cert.ReferenceIdeal.main_arg1))
      (m' ((((0 : Dev _).tc : Thread Cert.ReferenceIdeal.nD Cert.ReferenceIdeal.τ)).loc Cert.ReferenceIdeal.main_arg2))
      (m' ((((0 : Dev _).tc : Thread Cert.ReferenceIdeal.nD Cert.ReferenceIdeal.τ)).loc Cert.ReferenceIdeal.main_arg3))
      (m' ((((0 : Dev _).tc : Thread Cert.ReferenceIdeal.nD Cert.ReferenceIdeal.τ)).loc Cert.ReferenceIdeal.main_arg4)) :=
    ⟨fun c => (h c).1, fun c => (h c).2.1, fun c => (h c).2.2.1, fun c => (h c).2.2.2.1, fun c => (h c).2.2.2.2⟩
  refine ⟨Cert.ReferenceIdeal.Value.res_main_v35 m' 0, ?_, ?_⟩
  · exact (θ_run Cert.KernelIdeal.defs _ _).mono (fun _ hr c =>
      ⟨((hr.1 c).1 (3 : Fin 4)).trans ((final_out m ρ c).trans ((hw.result c).trans (RefProof.result_eq m' 0).symm)), args_kept m ρ hr.1 c⟩)
      (run_main (F := Ideal) m ρ)
  · exact (θ_run Cert.ReferenceIdeal.defs _ _).mono (fun _ hr => hr 0) (Cert.ReferenceIdeal.Value.run (F := Ideal) m' ρ')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tie
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_kernel, Cert.KProof.frame_kernelIdeal, Cert.KProof.frame_reference, trivial, Cert.KProof.algebraic⟩

end Cert.Proof

end
